-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S8x96x50176 : Shape := ⟨3, ![8, 96, 50176]⟩
abbrev S8x4x50176 : Shape := ⟨3, ![8, 4, 50176]⟩
abbrev S1x96x50176 : Shape := ⟨3, ![1, 96, 50176]⟩
abbrev S1x4x50176 : Shape := ⟨3, ![1, 4, 50176]⟩
abbrev S96x50176 : Shape := ⟨2, ![96, 50176]⟩
abbrev S96 : Shape := ⟨1, ![96]⟩
abbrev S96x1 : Shape := ⟨2, ![96, 1]⟩
abbrev S1x96 : Shape := ⟨2, ![1, 96]⟩
abbrev S96x96 : Shape := ⟨2, ![96, 96]⟩
abbrev S96x8 : Shape := ⟨2, ![96, 8]⟩
abbrev S8x50176 : Shape := ⟨2, ![8, 50176]⟩
abbrev S8 : Shape := ⟨1, ![8]⟩
abbrev S8x1 : Shape := ⟨2, ![8, 1]⟩
abbrev S4x50176 : Shape := ⟨2, ![4, 50176]⟩
abbrev S8x4x224x224 : Shape := ⟨4, ![8, 4, 224, 224]⟩

abbrev nBuf : Space → Nat
  | .hbm => 4
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S8x96x50176, .f32⟩
  | .hbm, ⟨2, _⟩ => ⟨S8x4x50176, .f32⟩
  | .hbm, ⟨3, _⟩ => ⟨S8x4x224x224, .f32⟩
  | .local _ .vmem, ⟨0, _⟩ => ⟨S1x96x50176, .f32⟩
  | .local _ .vmem, ⟨1, _⟩ => ⟨S1x96x50176, .f32⟩
  | .local _ .vmem, ⟨2, _⟩ => ⟨S1x4x50176, .f32⟩
  | .local _ .vmem, ⟨3, _⟩ => ⟨S1x4x50176, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x50176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x50176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x96x224x224 : Shape := ⟨4, ![8, 96, 224, 224]⟩
abbrev S8x96x50176 : Shape := ⟨3, ![8, 96, 50176]⟩
abbrev S_ : Shape := ⟨0, ![]⟩
abbrev S8x96 : Shape := ⟨2, ![8, 96]⟩
abbrev S8x32 : Shape := ⟨2, ![8, 32]⟩
abbrev S8x64 : Shape := ⟨2, ![8, 64]⟩
abbrev S8x32x1x1 : Shape := ⟨4, ![8, 32, 1, 1]⟩
abbrev S8x32x1 : Shape := ⟨3, ![8, 32, 1]⟩
abbrev S1 : Shape := ⟨1, ![1]⟩
abbrev S1x1x1 : Shape := ⟨3, ![1, 1, 1]⟩
abbrev S8x32x224x224 : Shape := ⟨4, ![8, 32, 224, 224]⟩
abbrev S8x64x1x1 : Shape := ⟨4, ![8, 64, 1, 1]⟩
abbrev S8x64x1 : Shape := ⟨3, ![8, 64, 1]⟩
abbrev S8x64x224x224 : Shape := ⟨4, ![8, 64, 224, 224]⟩
abbrev S8x224x224 : Shape := ⟨3, ![8, 224, 224]⟩
abbrev S8x1x224x224 : Shape := ⟨4, ![8, 1, 224, 224]⟩
abbrev S8x50176 : Shape := ⟨2, ![8, 50176]⟩
abbrev S8 : Shape := ⟨1, ![8]⟩
abbrev S8x1x1x1 : Shape := ⟨4, ![8, 1, 1, 1]⟩
abbrev S8x2x224x224 : Shape := ⟨4, ![8, 2, 224, 224]⟩
abbrev S8x4x224x224 : Shape := ⟨4, ![8, 4, 224, 224]⟩

abbrev nBuf : Space → Nat
  | .hbm => 233
  | .vmem => 0
  | .smem => 0
  | _ => 0

abbrev hbmTy0_0 (i : Nat) : BufTy := match i % 128 with
  | 0 => ⟨S8x96x224x224, .f32⟩
  | 1 => ⟨S8x96x50176, .f32⟩
  | 2 => ⟨S_, .f32⟩
  | 3 => ⟨S8x96, .f32⟩
  | 4 => ⟨S_, .f32⟩
  | 5 => ⟨S8x96, .f32⟩
  | 6 => ⟨S8x96, .f32⟩
  | 7 => ⟨S8x96, .i32⟩
  | 8 => ⟨S8x96, .f32⟩
  | 9 => ⟨S8x96, .i32⟩
  | 10 => ⟨S8x32, .i32⟩
  | 11 => ⟨S8x64, .i32⟩
  | 12 => ⟨S8x32x1x1, .i32⟩
  | 13 => ⟨S_, .i32⟩
  | 14 => ⟨S8x32x1x1, .i32⟩
  | 15 => ⟨S8x32x1x1, .i1⟩
  | 16 => ⟨S_, .i32⟩
  | 17 => ⟨S8x32x1x1, .i32⟩
  | 18 => ⟨S8x32x1x1, .i32⟩
  | 19 => ⟨S8x32x1x1, .i32⟩
  | 20 => ⟨S8x32x1, .i32⟩
  | 21 => ⟨S1, .i32⟩
  | 22 => ⟨S_, .i32⟩
  | 23 => ⟨S8x32x1, .i32⟩
  | 24 => ⟨S8x32x1, .i1⟩
  | 25 => ⟨S1x1x1, .i32⟩
  | 26 => ⟨S8x32x1, .i32⟩
  | 27 => ⟨S8x32x1, .i1⟩
  | 28 => ⟨S8x32x1, .i1⟩
  | 29 => ⟨S_, .i1⟩
  | 30 => ⟨S8x32, .i1⟩
  | 31 => ⟨S8x32x224x224, .f32⟩
  | 32 => ⟨S8x32x224x224, .i1⟩
  | 33 => ⟨S_, .f32⟩
  | 34 => ⟨S8x32x224x224, .f32⟩
  | 35 => ⟨S8x32x224x224, .f32⟩
  | 36 => ⟨S8x64x1x1, .i32⟩
  | 37 => ⟨S_, .i32⟩
  | 38 => ⟨S8x64x1x1, .i32⟩
  | 39 => ⟨S8x64x1x1, .i1⟩
  | 40 => ⟨S_, .i32⟩
  | 41 => ⟨S8x64x1x1, .i32⟩
  | 42 => ⟨S8x64x1x1, .i32⟩
  | 43 => ⟨S8x64x1x1, .i32⟩
  | 44 => ⟨S8x64x1, .i32⟩
  | 45 => ⟨S1, .i32⟩
  | 46 => ⟨S_, .i32⟩
  | 47 => ⟨S8x64x1, .i32⟩
  | 48 => ⟨S8x64x1, .i1⟩
  | 49 => ⟨S1x1x1, .i32⟩
  | 50 => ⟨S8x64x1, .i32⟩
  | 51 => ⟨S8x64x1, .i1⟩
  | 52 => ⟨S8x64x1, .i1⟩
  | 53 => ⟨S_, .i1⟩
  | 54 => ⟨S8x64, .i1⟩
  | 55 => ⟨S8x64x224x224, .f32⟩
  | 56 => ⟨S8x64x224x224, .i1⟩
  | 57 => ⟨S_, .f32⟩
  | 58 => ⟨S8x64x224x224, .f32⟩
  | 59 => ⟨S8x64x224x224, .f32⟩
  | 60 => ⟨S_, .f32⟩
  | 61 => ⟨S8x224x224, .f32⟩
  | 62 => ⟨S8x1x224x224, .f32⟩
  | 63 => ⟨S_, .f32⟩
  | 64 => ⟨S8x1x224x224, .f32⟩
  | 65 => ⟨S8x1x224x224, .f32⟩
  | 66 => ⟨S_, .f32⟩
  | 67 => ⟨S8x224x224, .f32⟩
  | 68 => ⟨S8x1x224x224, .f32⟩
  | 69 => ⟨S_, .f32⟩
  | 70 => ⟨S8x1x224x224, .f32⟩
  | 71 => ⟨S8x1x224x224, .f32⟩
  | 72 => ⟨S8x1x224x224, .f32⟩
  | 73 => ⟨S8x50176, .f32⟩
  | 74 => ⟨S_, .f32⟩
  | 75 => ⟨S8, .f32⟩
  | 76 => ⟨S8x1x1x1, .f32⟩
  | 77 => ⟨S8x50176, .f32⟩
  | 78 => ⟨S_, .f32⟩
  | 79 => ⟨S8, .f32⟩
  | 80 => ⟨S8x1x1x1, .f32⟩
  | 81 => ⟨S8x1x224x224, .f32⟩
  | 82 => ⟨S8x1x224x224, .f32⟩
  | 83 => ⟨S8x1x1x1, .f32⟩
  | 84 => ⟨S_, .f32⟩
  | 85 => ⟨S8x1x1x1, .f32⟩
  | 86 => ⟨S8x1x1x1, .f32⟩
  | 87 => ⟨S8x1x224x224, .f32⟩
  | 88 => ⟨S8x1x224x224, .f32⟩
  | 89 => ⟨S8x64, .i32⟩
  | 90 => ⟨S8x32, .i32⟩
  | 91 => ⟨S8x64x1x1, .i32⟩
  | 92 => ⟨S_, .i32⟩
  | 93 => ⟨S8x64x1x1, .i32⟩
  | 94 => ⟨S8x64x1x1, .i1⟩
  | 95 => ⟨S_, .i32⟩
  | 96 => ⟨S8x64x1x1, .i32⟩
  | 97 => ⟨S8x64x1x1, .i32⟩
  | 98 => ⟨S8x64x1x1, .i32⟩
  | 99 => ⟨S8x64x1, .i32⟩
  | 100 => ⟨S1, .i32⟩
  | 101 => ⟨S_, .i32⟩
  | 102 => ⟨S8x64x1, .i32⟩
  | 103 => ⟨S8x64x1, .i1⟩
  | 104 => ⟨S1x1x1, .i32⟩
  | 105 => ⟨S8x64x1, .i32⟩
  | 106 => ⟨S8x64x1, .i1⟩
  | 107 => ⟨S8x64x1, .i1⟩
  | 108 => ⟨S_, .i1⟩
  | 109 => ⟨S8x64, .i1⟩
  | 110 => ⟨S8x64x224x224, .f32⟩
  | 111 => ⟨S8x64x224x224, .i1⟩
  | 112 => ⟨S_, .f32⟩
  | 113 => ⟨S8x64x224x224, .f32⟩
  | 114 => ⟨S8x64x224x224, .f32⟩
  | 115 => ⟨S8x32x1x1, .i32⟩
  | 116 => ⟨S_, .i32⟩
  | 117 => ⟨S8x32x1x1, .i32⟩
  | 118 => ⟨S8x32x1x1, .i1⟩
  | 119 => ⟨S_, .i32⟩
  | 120 => ⟨S8x32x1x1, .i32⟩
  | 121 => ⟨S8x32x1x1, .i32⟩
  | 122 => ⟨S8x32x1x1, .i32⟩
  | 123 => ⟨S8x32x1, .i32⟩
  | 124 => ⟨S1, .i32⟩
  | 125 => ⟨S_, .i32⟩
  | 126 => ⟨S8x32x1, .i32⟩
  | 127 => ⟨S8x32x1, .i1⟩
  | _ => ⟨S8x96x224x224, .f32⟩

abbrev hbmTy0_1 (i : Nat) : BufTy := match i % 128 with
  | 0 => ⟨S1x1x1, .i32⟩
  | 1 => ⟨S8x32x1, .i32⟩
  | 2 => ⟨S8x32x1, .i1⟩
  | 3 => ⟨S8x32x1, .i1⟩
  | 4 => ⟨S_, .i1⟩
  | 5 => ⟨S8x32, .i1⟩
  | 6 => ⟨S8x32x224x224, .f32⟩
  | 7 => ⟨S8x32x224x224, .i1⟩
  | 8 => ⟨S_, .f32⟩
  | 9 => ⟨S8x32x224x224, .f32⟩
  | 10 => ⟨S8x32x224x224, .f32⟩
  | 11 => ⟨S_, .f32⟩
  | 12 => ⟨S8x224x224, .f32⟩
  | 13 => ⟨S8x1x224x224, .f32⟩
  | 14 => ⟨S_, .f32⟩
  | 15 => ⟨S8x1x224x224, .f32⟩
  | 16 => ⟨S8x1x224x224, .f32⟩
  | 17 => ⟨S_, .f32⟩
  | 18 => ⟨S8x224x224, .f32⟩
  | 19 => ⟨S8x1x224x224, .f32⟩
  | 20 => ⟨S_, .f32⟩
  | 21 => ⟨S8x1x224x224, .f32⟩
  | 22 => ⟨S8x1x224x224, .f32⟩
  | 23 => ⟨S8x1x224x224, .f32⟩
  | 24 => ⟨S8x50176, .f32⟩
  | 25 => ⟨S_, .f32⟩
  | 26 => ⟨S8, .f32⟩
  | 27 => ⟨S8x1x1x1, .f32⟩
  | 28 => ⟨S8x50176, .f32⟩
  | 29 => ⟨S_, .f32⟩
  | 30 => ⟨S8, .f32⟩
  | 31 => ⟨S8x1x1x1, .f32⟩
  | 32 => ⟨S8x1x224x224, .f32⟩
  | 33 => ⟨S8x1x224x224, .f32⟩
  | 34 => ⟨S8x1x1x1, .f32⟩
  | 35 => ⟨S_, .f32⟩
  | 36 => ⟨S8x1x1x1, .f32⟩
  | 37 => ⟨S8x1x1x1, .f32⟩
  | 38 => ⟨S8x1x224x224, .f32⟩
  | 39 => ⟨S8x1x224x224, .f32⟩
  | 40 => ⟨S8x2x224x224, .f32⟩
  | 41 => ⟨S8x32x224x224, .f32⟩
  | 42 => ⟨S8x64x224x224, .f32⟩
  | 43 => ⟨S_, .f32⟩
  | 44 => ⟨S8x224x224, .f32⟩
  | 45 => ⟨S8x1x224x224, .f32⟩
  | 46 => ⟨S_, .f32⟩
  | 47 => ⟨S8x1x224x224, .f32⟩
  | 48 => ⟨S8x1x224x224, .f32⟩
  | 49 => ⟨S_, .f32⟩
  | 50 => ⟨S8x224x224, .f32⟩
  | 51 => ⟨S8x1x224x224, .f32⟩
  | 52 => ⟨S_, .f32⟩
  | 53 => ⟨S8x1x224x224, .f32⟩
  | 54 => ⟨S8x1x224x224, .f32⟩
  | 55 => ⟨S8x1x224x224, .f32⟩
  | 56 => ⟨S8x50176, .f32⟩
  | 57 => ⟨S_, .f32⟩
  | 58 => ⟨S8, .f32⟩
  | 59 => ⟨S8x1x1x1, .f32⟩
  | 60 => ⟨S8x50176, .f32⟩
  | 61 => ⟨S_, .f32⟩
  | 62 => ⟨S8, .f32⟩
  | 63 => ⟨S8x1x1x1, .f32⟩
  | 64 => ⟨S8x1x224x224, .f32⟩
  | 65 => ⟨S8x1x224x224, .f32⟩
  | 66 => ⟨S8x1x1x1, .f32⟩
  | 67 => ⟨S_, .f32⟩
  | 68 => ⟨S8x1x1x1, .f32⟩
  | 69 => ⟨S8x1x1x1, .f32⟩
  | 70 => ⟨S8x1x224x224, .f32⟩
  | 71 => ⟨S8x1x224x224, .f32⟩
  | 72 => ⟨S8x64x224x224, .f32⟩
  | 73 => ⟨S8x32x224x224, .f32⟩
  | 74 => ⟨S_, .f32⟩
  | 75 => ⟨S8x224x224, .f32⟩
  | 76 => ⟨S8x1x224x224, .f32⟩
  | 77 => ⟨S_, .f32⟩
  | 78 => ⟨S8x1x224x224, .f32⟩
  | 79 => ⟨S8x1x224x224, .f32⟩
  | 80 => ⟨S_, .f32⟩
  | 81 => ⟨S8x224x224, .f32⟩
  | 82 => ⟨S8x1x224x224, .f32⟩
  | 83 => ⟨S_, .f32⟩
  | 84 => ⟨S8x1x224x224, .f32⟩
  | 85 => ⟨S8x1x224x224, .f32⟩
  | 86 => ⟨S8x1x224x224, .f32⟩
  | 87 => ⟨S8x50176, .f32⟩
  | 88 => ⟨S_, .f32⟩
  | 89 => ⟨S8, .f32⟩
  | 90 => ⟨S8x1x1x1, .f32⟩
  | 91 => ⟨S8x50176, .f32⟩
  | 92 => ⟨S_, .f32⟩
  | 93 => ⟨S8, .f32⟩
  | 94 => ⟨S8x1x1x1, .f32⟩
  | 95 => ⟨S8x1x224x224, .f32⟩
  | 96 => ⟨S8x1x224x224, .f32⟩
  | 97 => ⟨S8x1x1x1, .f32⟩
  | 98 => ⟨S_, .f32⟩
  | 99 => ⟨S8x1x1x1, .f32⟩
  | 100 => ⟨S8x1x1x1, .f32⟩
  | 101 => ⟨S8x1x224x224, .f32⟩
  | 102 => ⟨S8x1x224x224, .f32⟩
  | 103 => ⟨S8x2x224x224, .f32⟩
  | 104 => ⟨S8x4x224x224, .f32⟩
  | _ => ⟨S8x96x224x224, .f32⟩

abbrev hbmTy (i : Nat) : BufTy := match i / 128 with
  | 0 => hbmTy0_0 i
  | 1 => hbmTy0_1 i
  | _ => ⟨S8x96x224x224, .f32⟩

abbrev bufTy : (tb : Table) → Fin (tcTables nBuf tb) → BufTy
  | .hbm, ⟨i, _⟩ => hbmTy i
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v8 : Ref sig .tc := ⟨.hbm, 35, rfl⟩
abbrev main_v9 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v10 : Ref sig .tc := ⟨.hbm, 59, rfl⟩
abbrev main_cst_1 : Ref sig .tc := ⟨.hbm, 60, rfl⟩
abbrev main_v11 : Ref sig .tc := ⟨.hbm, 61, rfl⟩
abbrev main_v12 : Ref sig .tc := ⟨.hbm, 62, rfl⟩
abbrev main_cst_2 : Ref sig .tc := ⟨.hbm, 63, rfl⟩
abbrev main_v13 : Ref sig .tc := ⟨.hbm, 64, rfl⟩
abbrev main_v14 : Ref sig .tc := ⟨.hbm, 65, rfl⟩
abbrev main_cst_3 : Ref sig .tc := ⟨.hbm, 66, rfl⟩
abbrev main_v15 : Ref sig .tc := ⟨.hbm, 67, rfl⟩
abbrev main_v16 : Ref sig .tc := ⟨.hbm, 68, rfl⟩
abbrev main_cst_4 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_cst_5 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_6 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_7 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v36 : Ref sig .tc := ⟨.hbm, 114, rfl⟩
abbrev main_v37 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v38 : Ref sig .tc := ⟨.hbm, 138, rfl⟩
abbrev main_cst_8 : Ref sig .tc := ⟨.hbm, 139, rfl⟩
abbrev main_v39 : Ref sig .tc := ⟨.hbm, 140, rfl⟩
abbrev main_v40 : Ref sig .tc := ⟨.hbm, 141, rfl⟩
abbrev main_cst_9 : Ref sig .tc := ⟨.hbm, 142, rfl⟩
abbrev main_v41 : Ref sig .tc := ⟨.hbm, 143, rfl⟩
abbrev main_v42 : Ref sig .tc := ⟨.hbm, 144, rfl⟩
abbrev main_cst_10 : Ref sig .tc := ⟨.hbm, 145, rfl⟩
abbrev main_v43 : Ref sig .tc := ⟨.hbm, 146, rfl⟩
abbrev main_v44 : Ref sig .tc := ⟨.hbm, 147, rfl⟩
abbrev main_cst_11 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_cst_12 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_cst_13 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_cst_14 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_cst_15 : Ref sig .tc := ⟨.hbm, 171, rfl⟩
abbrev main_v64 : Ref sig .tc := ⟨.hbm, 172, rfl⟩
abbrev main_v65 : Ref sig .tc := ⟨.hbm, 173, rfl⟩
abbrev main_cst_16 : Ref sig .tc := ⟨.hbm, 174, rfl⟩
abbrev main_v66 : Ref sig .tc := ⟨.hbm, 175, rfl⟩
abbrev main_v67 : Ref sig .tc := ⟨.hbm, 176, rfl⟩
abbrev main_cst_17 : Ref sig .tc := ⟨.hbm, 177, rfl⟩
abbrev main_v68 : Ref sig .tc := ⟨.hbm, 178, rfl⟩
abbrev main_v69 : Ref sig .tc := ⟨.hbm, 179, rfl⟩
abbrev main_cst_18 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_cst_19 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_cst_20 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_cst_21 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_cst_22 : Ref sig .tc := ⟨.hbm, 202, rfl⟩
abbrev main_v88 : Ref sig .tc := ⟨.hbm, 203, rfl⟩
abbrev main_v89 : Ref sig .tc := ⟨.hbm, 204, rfl⟩
abbrev main_cst_23 : Ref sig .tc := ⟨.hbm, 205, rfl⟩
abbrev main_v90 : Ref sig .tc := ⟨.hbm, 206, rfl⟩
abbrev main_v91 : Ref sig .tc := ⟨.hbm, 207, rfl⟩
abbrev main_cst_24 : Ref sig .tc := ⟨.hbm, 208, rfl⟩
abbrev main_v92 : Ref sig .tc := ⟨.hbm, 209, rfl⟩
abbrev main_v93 : Ref sig .tc := ⟨.hbm, 210, rfl⟩
abbrev main_cst_25 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_cst_26 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_cst_27 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_cst_28 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩

abbrev nD : Nat := 1
abbrev τ : Topo := Topo.v7x

variable {F : FTy → Type} [FloatOps F]
-- ==== Proof.Bands.lean ====
/- The mathematics of one band, away from both programs. A batch element is a table `X c p` of extended reals, `c` a
   channel and `p` a pixel; a band splits the channels into a low group and a high group. One side weighs every channel
   and sums once; the other takes the mean of each group and subtracts. The two images are then normalised alike. -/
module

public import Idealize.ShloMosaic.PureOps
public import Idealize.ShloMosaic.PureOps.Ideal.Laws

@[expose] public section

noncomputable section

namespace Cert.Proof.Bands

open Idealize.ShloMosaic

/-- An extended real that is one of the two infinities. -/
def Inf (x : EReal) : Prop := x = ⊤ ∨ x = ⊥

/-- A sum with an infinite first term is infinite. -/
theorem Inf.add {x : EReal} (h : Inf x) (y : EReal) : Inf (x + y) := by
  rcases h with rfl | rfl
  · by_cases hy : y = ⊥
    · right; rw [hy, EReal.add_bot]
    · left; exact EReal.top_add_of_ne_bot hy
  · right; exact EReal.bot_add y

/-- The negation of an infinity is infinite. -/
theorem Inf.neg {x : EReal} (h : Inf x) : Inf (-x) := by
  rcases h with rfl | rfl
  · right; exact EReal.neg_top
  · left; exact EReal.neg_bot

/-- A difference whose first term is infinite is infinite. -/
theorem Inf.sub {x : EReal} (h : Inf x) (y : EReal) : Inf (x - y) := by
  rw [sub_eq_add_neg]; exact h.add _

/-- A difference whose second term is infinite is infinite. -/
theorem Inf.sub_right {y : EReal} (h : Inf y) (x : EReal) : Inf (x - y) := by
  rw [sub_eq_add_neg, add_comm]; exact h.neg.add _

/-- An infinity times a real that is not zero is infinite. -/
theorem Inf.coe_mul {x : EReal} (h : Inf x) {r : ℝ} (hr : r ≠ 0) : Inf ((r : EReal) * x) := by
  rcases lt_or_gt_of_ne hr with h0 | h0 <;> rcases h with rfl | rfl
  · right; exact EReal.coe_mul_top_of_neg h0
  · left; exact EReal.coe_mul_bot_of_neg h0
  · left; exact EReal.coe_mul_top_of_pos h0
  · right; exact EReal.coe_mul_bot_of_pos h0

/-- A finite sum with an infinite term is infinite. -/
theorem Inf.sum {ι : Type} [DecidableEq ι] {s : Finset ι} {f : ι → EReal} {i : ι} (hi : i ∈ s) (h : Inf (f i)) :
    Inf (∑ j ∈ s, f j) := by
  rw [← Finset.add_sum_erase s f hi]; exact h.add _

/-- Anything divided by an infinity is zero. -/
theorem div_inf {y : EReal} (h : Inf y) (x : EReal) : Ideal.div x y = 0 := by
  unfold Ideal.div
  rcases h with rfl | rfl
  · rw [if_neg (by simp), EReal.inv_top, mul_zero]
  · rw [if_neg (by simp), EReal.inv_bot, mul_zero]

/-- The normalised image: its least value subtracted, divided by its range widened by `e`. -/
def norm {n : ℕ} (e : ℝ) (f : Fin n → EReal) (p : Fin n) : EReal :=
  Ideal.div (f p - Finset.univ.fold min ⊤ f)
    (Finset.univ.fold max ⊥ f - Finset.univ.fold min ⊤ f + (e : EReal))

/-- An image with an infinite value has an infinite range, so it is normalised to zero everywhere. -/
theorem norm_eq_zero {n : ℕ} (e : ℝ) (f : Fin n → EReal) {q : Fin n} (h : Inf (f q)) (p : Fin n) : norm e f p = 0 := by
  refine div_inf (Inf.add ?_ _) _
  rcases h with h | h
  · refine Inf.sub (Or.inl (top_le_iff.mp ?_)) _
    exact Finset.le_fold_max _ |>.mpr (Or.inr ⟨q, Finset.mem_univ q, h.ge⟩)
  · refine Inf.sub_right (Or.inr (le_bot_iff.mp ?_)) _
    exact Finset.fold_min_le _ |>.mpr (Or.inr ⟨q, Finset.mem_univ q, h.le⟩)

variable {C N : ℕ} (L : Fin C → Prop) [DecidablePred L] (a b : ℝ) (X : Fin C → Fin N → EReal)

/-- One side's image: every channel weighed, `-a` in the low group and `b` in the high one, and summed. -/
def weighed (p : Fin N) : EReal := ∑ c, ((if L c then -a else b : ℝ) : EReal) * X c p

/-- The other side's image: the high group's sum times `b` less the low group's sum times `a`. -/
def gap (p : Fin N) : EReal := (∑ c with ¬ L c, X c p) * (b : EReal) - (∑ c with L c, X c p) * (a : EReal)

variable {a b}

/-- A finite sum of reals, taken among the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Where every value is real the two images are equal. -/
theorem weighed_eq_gap (h : ∀ c p, ¬ Inf (X c p)) (p : Fin N) : weighed L a b X p = gap L a b X p := by
  have hx : ∀ c, ∃ r : ℝ, X c p = (r : EReal) := fun c =>
    ⟨(X c p).toReal, (EReal.coe_toReal (fun e => h c p (Or.inl e)) (fun e => h c p (Or.inr e))).symm⟩
  choose r hr using hx
  unfold weighed gap
  simp only [hr, ← EReal.coe_mul, coe_sum, ← EReal.coe_sub]
  rw [Finset.sum_mul, Finset.sum_mul, Finset.sum_filter, Finset.sum_filter, ← Finset.sum_sub_distrib]
  refine congrArg _ (Finset.sum_congr rfl fun c _ => ?_)
  by_cases hL : L c
  · simp [hL]; ring
  · simp [hL]; ring

/-- An infinite value makes one side's image infinite at its pixel, -/
theorem weighed_inf (ha : 0 < a) (hb : 0 < b) {c : Fin C} {p : Fin N} (h : Inf (X c p)) : Inf (weighed L a b X p) := by
  refine Inf.sum (i := c) (Finset.mem_univ c) (h.coe_mul ?_)
  split
  · exact neg_ne_zero.mpr ha.ne'
  · exact hb.ne'

/-- and the other side's. -/
theorem gap_inf (ha : 0 < a) (hb : 0 < b) {c : Fin C} {p : Fin N} (h : Inf (X c p)) : Inf (gap L a b X p) := by
  unfold gap
  rw [mul_comm, mul_comm _ (a : EReal)]
  by_cases hL : L c
  · exact Inf.sub_right ((Inf.sum (i := c) (by simp [hL]) h).coe_mul ha.ne') _
  · exact Inf.sub ((Inf.sum (i := c) (by simp [hL]) h).coe_mul hb.ne') _

/-- THE EQUATION OF ONE BAND: normalised, the two images are equal, whatever the values. -/
theorem norm_weighed_eq_norm_gap (e : ℝ) (ha : 0 < a) (hb : 0 < b) (p : Fin N) :
    norm e (weighed L a b X) p = norm e (gap L a b X) p := by
  by_cases h : ∀ c p, ¬ Inf (X c p)
  · rw [funext (weighed_eq_gap L X h)]
  · push Not at h
    obtain ⟨c, q, h⟩ := h
    rw [norm_eq_zero e _ (weighed_inf L X ha hb h), norm_eq_zero e _ (gap_inf L X ha hb h)]

/-- A sum along the first `n` places of an arrangement `σ` of the channels, where `key` tells a channel's place, is the
    sum over the channels placed below `n`; -/
theorem sum_low {n m : ℕ} (σ : Fin (n + m) → Fin (n + m)) (hσ : Function.Bijective σ) (key : Fin (n + m) → ℕ)
    (hk : ∀ k, key (σ k) = k.val) (f : Fin (n + m) → EReal) :
    ∑ k : Fin n, f (σ (Fin.castAdd m k)) = ∑ c with key c < n, f c := by
  rw [Finset.sum_filter, ← Function.Bijective.sum_comp hσ, Fin.sum_univ_add]
  simp [hk]

/-- and along the other `m` places, the sum over the rest. -/
theorem sum_high {n m : ℕ} (σ : Fin (n + m) → Fin (n + m)) (hσ : Function.Bijective σ) (key : Fin (n + m) → ℕ)
    (hk : ∀ k, key (σ k) = k.val) (f : Fin (n + m) → EReal) :
    ∑ k : Fin m, f (σ (Fin.natAdd n k)) = ∑ c with ¬ key c < n, f c := by
  rw [Finset.sum_filter, ← Function.Bijective.sum_comp hσ, Fin.sum_univ_add]
  simp [hk]

/-- Hence the second side's image, written along the arrangement. -/
theorem gap_along {n m N : ℕ} (X : Fin (n + m) → Fin N → EReal) (σ : Fin (n + m) → Fin (n + m))
    (hσ : Function.Bijective σ) (key : Fin (n + m) → ℕ) (hk : ∀ k, key (σ k) = k.val) (a b : ℝ) (p : Fin N) :
    (∑ k : Fin m, X (σ (Fin.natAdd n k)) p) * (b : EReal) - (∑ k : Fin n, X (σ (Fin.castAdd m k)) p) * (a : EReal)
      = gap (fun c => key c < n) a b X p := by
  rw [sum_low σ hσ key hk fun c => X c p, sum_high σ hσ key hk fun c => X c p]
  rfl

end Cert.Proof.Bands

end
-- ==== Proof.Rank.lean ====
/- The order of the channels, away from both programs. One side counts, for every channel, the channels with a smaller
   sum, or an equal sum and a smaller number; the other sorts the channels by their means, keeping the given order among
   equals. A channel's count is its place in the sorted arrangement. -/
module

public import Idealize.ShloMosaic.Lib.SortFacts
public import Idealize.ShloMosaic.PureOps.Ideal.Laws

@[expose] public section

noncomputable section

namespace Cert.Proof.Rank

open Idealize.ShloMosaic

variable {n : ℕ} (s : Fin n → EReal)

/-- Channel `d` comes before channel `c`: a smaller score, or the same score and a smaller number. -/
def Before (d c : Fin n) : Prop := s d < s c ∨ (s d = s c ∧ d < c)

open Classical in
/-- How many channels come before channel `c`. -/
def rank (c : Fin n) : ℕ := (Finset.univ.filter fun d => Before s d c).card

theorem before_irrefl (c : Fin n) : ¬ Before s c c := by
  rintro (h | ⟨-, h⟩) <;> exact absurd h (lt_irrefl _)

theorem before_asymm {c d : Fin n} (h : Before s c d) : ¬ Before s d c := by
  rintro (h' | ⟨e', h'⟩) <;> rcases h with h | ⟨e, h⟩
  · exact absurd (h.trans h') (lt_irrefl _)
  · rw [e] at h'; exact absurd h' (lt_irrefl _)
  · rw [e'] at h; exact absurd h (lt_irrefl _)
  · exact absurd (h.trans h') (lt_irrefl _)

/-- An arrangement in which every channel comes before the later ones puts a channel at its rank. -/
theorem rank_arranged (σ : Fin n → Fin n) (hσ : Function.Bijective σ) (h : ∀ i j, i < j → Before s (σ i) (σ j))
    (k : Fin n) : rank s (σ k) = k.val := by
  classical
  have : (Finset.univ.filter fun d => Before s d (σ k)) = (Finset.Iio k).image σ := by
    ext d
    simp only [Finset.mem_filter, Finset.mem_univ, true_and, Finset.mem_image, Finset.mem_Iio]
    constructor
    · intro hd
      obtain ⟨i, rfl⟩ := hσ.2 d
      refine ⟨i, ?_, rfl⟩
      by_contra hi
      rcases eq_or_lt_of_le (not_lt.mp hi) with e | e
      · rw [e] at hd; exact before_irrefl s _ hd
      · exact before_asymm s (h _ _ e) hd
    · rintro ⟨i, hi, rfl⟩; exact h _ _ hi
  unfold rank
  rw [show (Finset.univ.filter fun d => Before s d (σ k)).card = ((Finset.Iio k).image σ).card from by rw [← this],
    Finset.card_image_of_injective _ hσ.1, Fin.card_Iio]

/-- Inserting a channel that precedes every channel of an arranged list leaves the list arranged. -/
theorem arranged_insert (a : Fin n) (l : List (Fin n)) (ha : ∀ b ∈ l, a < b) (hl : l.Pairwise (Before s)) :
    (insertBefore (fun x y => decide (s x < s y)) a l).Pairwise (Before s) := by
  induction l with
  | nil => exact List.pairwise_singleton _ _
  | cons b l ih =>
    obtain ⟨hb, hl'⟩ := List.pairwise_cons.mp hl
    unfold insertBefore
    split
    · rename_i h
      have hba : s b < s a := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · rename_i h
      have hab : s a ≤ s b := by simpa using h
      refine List.pairwise_cons.mpr ⟨fun x hx => ?_, hl⟩
      have hle : s a ≤ s x := by
        rcases List.mem_cons.mp hx with rfl | hx'
        · exact hab
        · rcases hb x hx' with h1 | ⟨h1, -⟩
          · exact hab.trans h1.le
          · exact hab.trans h1.le
      rcases lt_or_eq_of_le hle with h1 | h1
      · exact Or.inl h1
      · exact Or.inr ⟨h1, ha x hx⟩

/-- So the insertion sort of a list in increasing order leaves it arranged. -/
theorem arranged_sort (l : List (Fin n)) (hl : l.Pairwise (· < ·)) :
    (stableSort (fun x y => decide (s x < s y)) l).Pairwise (Before s) := by
  induction l with
  | nil => exact List.Pairwise.nil
  | cons a l ih =>
    obtain ⟨ha, hl'⟩ := List.pairwise_cons.mp hl
    unfold stableSort
    exact arranged_insert s a _ (fun b hb => ha b ((perm_stableSort _ l).mem_iff.mp hb)) (ih hl')

/-- The channels sorted by score. -/
def sorted : Fin n → Fin n := sortedFrom fun x y => decide (s x < s y)

theorem sorted_bijective : Function.Bijective (sorted s) := ⟨sortedFrom_injective _, sortedFrom_surjective _⟩

/-- THE RANK IS THE PLACE: the channel sorted to place `k` has `k` channels before it. -/
theorem rank_sorted (k : Fin n) : rank s (sorted s k) = k.val := by
  refine rank_arranged s _ (sorted_bijective s) (fun i j hij => ?_) k
  have hp := List.pairwise_iff_get.mp (arranged_sort s (List.finRange n) (List.pairwise_lt_finRange n))
  unfold sorted sortedFrom
  exact hp _ _ (hij)

/-- Scores that compare alike are sorted alike. -/
theorem sorted_congr {s s' : Fin n → EReal} (h : ∀ i j, s i < s j ↔ s' i < s' j) : sorted s = sorted s' := by
  unfold sorted
  refine congrArg sortedFrom (funext fun i => funext fun j => ?_)
  simp only [h i j]

end Cert.Proof.Rank

end
-- ==== Proof.Consts.lean ====
/- The values of the float literals the two programs write, at the ideal reals. -/
module

public import Idealize.ShloMosaic.PureOps.Ideal.Laws

@[expose] public section

noncomputable section

namespace Cert.Proof.Consts

open Idealize.ShloMosaic

/-- The small number added to every range: the single-precision number nearest to 1e-8. -/
def eps : ℝ := 11258999 / 1125899906842624

theorem bits_eps : Ideal.ofBits .f32 0x322BCC77#32 = ((eps : ℝ) : EReal) := by
  unfold eps; simp [Ideal.ofBits, Ideal.ieee, -EReal.coe_mul]; norm_num
theorem bits_zero : Ideal.ofBits .f32 0x00000000#32 = 0 := by simp [Ideal.ofBits, Ideal.ieee]
theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_32 : Ideal.ofBits .f32 0x42000000#32 = ((32 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_50176 : Ideal.ofBits .f32 0x47440000#32 = ((50176 : ℝ) : EReal) := by
  simp [Ideal.ofBits, Ideal.ieee, -EReal.coe_mul]; norm_num
theorem bits_inv32 : Ideal.ofBits .f32 0x3D000000#32 = ((1 / 32 : ℝ) : EReal) := by
  simp [Ideal.ofBits, Ideal.ieee, -EReal.coe_mul]; norm_num
theorem bits_inv64 : Ideal.ofBits .f32 0x3C800000#32 = ((1 / 64 : ℝ) : EReal) := by
  simp [Ideal.ofBits, Ideal.ieee, -EReal.coe_mul]; norm_num
theorem bits_3_64 : Ideal.ofBits .f32 0x3D400000#32 = ((3 / 64 : ℝ) : EReal) := by
  simp [Ideal.ofBits, Ideal.ieee, -EReal.coe_mul]; norm_num

end Cert.Proof.Consts

end
-- ==== Proof.Spec.lean ====
/- What both programs compute, stated once: the result as a function of the argument array. -/
module

public import proofs.«01_k».proof.Proof.Bands
public import proofs.«01_k».proof.Proof.Rank
public import proofs.«01_k».proof.Proof.Consts
public import Idealize.ShloMosaic.Lib.ValueIdx

@[expose] public section

noncomputable section

namespace Cert.Proof.Spec

open Idealize.ShloMosaic Idealize.ShloMosaic.ValueIdx

/-- Pixel `p` of an image, counted row by row: its row, -/
abbrev row (p : Fin 50176) : Fin 224 := ⟨p.val / 224, by omega⟩
/-- and its column. -/
abbrev col (p : Fin 50176) : Fin 224 := ⟨p.val % 224, by omega⟩
/-- The pixel at a row and a column. -/
abbrev pixel (h w : Fin 224) : Fin 50176 := ⟨h.val * 224 + w.val, by omega⟩

theorem row_pixel (h w : Fin 224) : row (pixel h w) = h :=
  Fin.ext (by show (h.val * 224 + w.val) / 224 = h.val; omega)
theorem col_pixel (h w : Fin 224) : col (pixel h w) = w :=
  Fin.ext (by show (h.val * 224 + w.val) % 224 = w.val; omega)

/-- Batch element `b` of the argument: its channels' images, pixel by pixel. -/
def image (x : (⟨4, ![8, 96, 224, 224]⟩ : Shape).Idx → EReal) (b : Fin 8) (c : Fin 96) (p : Fin 50176) : EReal :=
  x (ix4 b c (row p) (col p))

/-- A channel's score: the sum of its pixels. -/
def score (X : Fin 96 → Fin 50176 → EReal) (c : Fin 96) : EReal := ∑ p, X c p

/-- A channel's place in band `r`: its rank by score in the two sorted bands, its number in the two serial ones. -/
def place (X : Fin 96 → Fin 50176 → EReal) (r : Fin 4) (c : Fin 96) : ℕ :=
  if r.val < 2 then Rank.rank (score X) c else c.val

/-- The number of channels in the low group of band `r`. -/
def cut (r : Fin 4) : ℕ := if r.val % 2 = 0 then 32 else 64

/-- The low group's weight, one over the number of its channels, -/
def lowWeight (r : Fin 4) : ℝ := if r.val % 2 = 0 then 1 / 32 else 1 / 64
/-- and the high group's. -/
def highWeight (r : Fin 4) : ℝ := if r.val % 2 = 0 then 1 / 64 else 1 / 32

theorem lowWeight_pos (r : Fin 4) : 0 < lowWeight r := by unfold lowWeight; split <;> norm_num
theorem highWeight_pos (r : Fin 4) : 0 < highWeight r := by unfold highWeight; split <;> norm_num

/-- Band `r` of a batch element: the high group's mean image less the low group's, normalised. -/
def band (X : Fin 96 → Fin 50176 → EReal) (r : Fin 4) (p : Fin 50176) : EReal :=
  Bands.norm Consts.eps (Bands.gap (fun c => place X r c < cut r) (lowWeight r) (highWeight r) X) p

/-- THE RESULT: band `r` of batch element `b`, at a row and a column. -/
def result (x : (⟨4, ![8, 96, 224, 224]⟩ : Shape).Idx → EReal) : (⟨4, ![8, 4, 224, 224]⟩ : Shape).Idx → EReal :=
  fun j => band (image x (j 0)) (j 1) (pixel (j 2) (j 3))

end Cert.Proof.Spec

end
-- ==== Proof.RefParts.lean ====
/- The reference's recurring pieces, each read at an index: the normalisation of a band's image, the gathering of
   channels by number, and the mean over a group of channels. Sizes of groups are left open, so that each piece is read
   once and used for every band. -/
module

public import proofs.«01_k».proof.Proof.Spec
public import proofs.«01_k».proof.Proof.Gen.ReferenceIdeal.Read
public import Idealize.ShloMosaic.Lib.ReduceAll

@[expose] public section

noncomputable section

namespace Cert.Proof.RefParts

open Cert.ReferenceIdeal Cert.ReferenceIdeal.Gen Idealize.ShloMosaic Idealize.ShloMosaic.ValueIdx
open Cert.Proof.Spec

/-! ## Normalisation -/

/-- A band's image of every batch element as one row of pixels, -/
def rows (V : S8x1x224x224.Idx → EReal) : S8x50176.Idx → EReal :=
  shapeCast S8x50176 V Facts₀.shapeCasts_S8x1x224x224_S8x50176
/-- its least values, -/
def lows (V : S8x1x224x224.Idx → EReal) : S8x1x1x1.Idx → EReal :=
  shapeCast S8x1x1x1 (Host.reduce (FloatOps.minimumf (F := Ideal) (φ := .f32)) (rows V)
    (constant (F := Ideal) S_ .f32 0x7F800000#32) Facts₀.reducesTo_S8x50176_S8_d1 Facts₀.h_S_) Facts₀.shapeCasts_S8_S8x1x1x1
/-- its greatest values, -/
def highs (V : S8x1x224x224.Idx → EReal) : S8x1x1x1.Idx → EReal :=
  shapeCast S8x1x1x1 (Host.reduce (FloatOps.maximumf (F := Ideal) (φ := .f32)) (rows V)
    (constant (F := Ideal) S_ .f32 0xFF800000#32) Facts₀.reducesTo_S8x50176_S8_d1 Facts₀.h_S_) Facts₀.shapeCasts_S8_S8x1x1x1
/-- and the image normalised, as the reference writes it. -/
def normalised (V : S8x1x224x224.Idx → EReal) : S8x1x224x224.Idx → EReal :=
  Host.divf (F := Ideal) (φ := .f32)
    (subf (F := Ideal) (φ := .f32) V
      (broadcastInDim S8x1x224x224 ![0, 1, 2, 3] Facts₀.bcast_S8x1x1x1_S8x1x224x224_0_1_2_3 (lows V)))
    (broadcastInDim S8x1x224x224 ![0, 1, 2, 3] Facts₀.bcast_S8x1x1x1_S8x1x224x224_0_1_2_3
      (addf (F := Ideal) (φ := .f32) (subf (F := Ideal) (φ := .f32) (highs V) (lows V))
        (broadcastInDim S8x1x1x1 ![] Facts₀.bcast_S_S8x1x1x1 (constant (F := Ideal) S_ .f32 0x322BCC77#32))))

theorem rows_apply (V : S8x1x224x224.Idx → EReal) (b : Fin 8) (p : Fin 50176) :
    rows V (ix2 b p) = V (ix4 b 0 (row p) (col p)) := by
  unfold rows
  refine shapeCast_apply _ _ _ _ ?_
  rw [Shape.rowMajor_val_four, Shape.rowMajor_val_two]
  show ((b.val * 1 + 0) * 224 + p.val / 224) * 224 + p.val % 224 = b.val * 50176 + p.val
  omega

theorem reduces_row : S8x50176.Reduces [1] S8 := by decide

/-- The one row-reduction of the pixels, as a fold. -/
theorem lift_row (V : S8x1x224x224.Idx → EReal) (h : S8x50176.Reduces [1] S8) (b : Fin 8)
    (p : Fin 50176) : rows V (h.lift (ix1 b) p) = V (ix4 b 0 (row p) (col p)) := by
  rw [← rows_apply V]
  exact congrArg (rows V) (funext fun a => Fin.ext (by match a with | ⟨0, _⟩ => rfl | ⟨1, _⟩ => rfl))

theorem lows_apply (V : S8x1x224x224.Idx → EReal) (b : Fin 8) :
    lows V (ix4 b 0 0 0) = Finset.univ.fold min ⊤ fun p : Fin 50176 => V (ix4 b 0 (row p) (col p)) := by
  unfold lows
  rw [shapeCast_apply _ _ _ (ix1 b) (by
    rw [Shape.rowMajor_val_one, Shape.rowMajor_val_four]; show b.val = ((b.val * 1 + 0) * 1 + 0) * 1 + 0; omega)]
  show Host.reduce (min : EReal → EReal → EReal) _ _ _ _ _ = _
  rw [Host.reduce_eq_fold_single (min : EReal → EReal → EReal) _ _ _ reduces_row _ (ix1 b)]
  refine (congrArg (fun e => Finset.fold min e _ _) Consts.bits_top).trans ?_
  exact Finset.fold_congr fun p _ => lift_row V reduces_row b p

theorem highs_apply (V : S8x1x224x224.Idx → EReal) (b : Fin 8) :
    highs V (ix4 b 0 0 0) = Finset.univ.fold max ⊥ fun p : Fin 50176 => V (ix4 b 0 (row p) (col p)) := by
  unfold highs
  rw [shapeCast_apply _ _ _ (ix1 b) (by
    rw [Shape.rowMajor_val_one, Shape.rowMajor_val_four]; show b.val = ((b.val * 1 + 0) * 1 + 0) * 1 + 0; omega)]
  show Host.reduce (max : EReal → EReal → EReal) _ _ _ _ _ = _
  rw [Host.reduce_eq_fold_single (max : EReal → EReal → EReal) _ _ _ reduces_row _ (ix1 b)]
  refine (congrArg (fun e => Finset.fold max e _ _) Consts.bits_bot).trans ?_
  exact Finset.fold_congr fun p _ => lift_row V reduces_row b p

/-- A value per batch element spread over the pixels. -/
theorem spread_apply (y : S8x1x1x1.Idx → EReal) (b : Fin 8) (h w : Fin 224) :
    broadcastInDim S8x1x224x224 ![0, 1, 2, 3] Facts₀.bcast_S8x1x1x1_S8x1x224x224_0_1_2_3 y (ix4 b 0 h w)
      = y (ix4 b 0 0 0) :=
  broadcastInDim_apply _ _ y _ _ fun a => match a with
    | ⟨0, _⟩ => rfl
    | ⟨1, _⟩ => rfl
    | ⟨2, _⟩ => rfl
    | ⟨3, _⟩ => rfl

/-- The reference's quotient read at an index. -/
theorem hostDivf_apply {s : Shape} (a b : FVec Ideal s .f32) (i : s.Idx) : Host.divf a b i = Ideal.div (a i) (b i) := rfl

/-- A literal spread over the batch elements. -/
theorem scalar_apply (bits : BitVec 32) (i : S8x1x1x1.Idx) :
    broadcastInDim S8x1x1x1 ![] Facts₀.bcast_S_S8x1x1x1 (constant (F := Ideal) S_ .f32 bits) i = Ideal.ofBits .f32 bits :=
  rfl

/-- THE NORMALISED IMAGE read at a pixel. -/
theorem normalised_apply (V : S8x1x224x224.Idx → EReal) (b : Fin 8) (h w : Fin 224) :
    normalised V (ix4 b 0 h w)
      = Bands.norm Consts.eps (fun p : Fin 50176 => V (ix4 b 0 (row p) (col p))) (pixel h w) := by
  unfold normalised
  rw [hostDivf_apply, subf_apply, spread_apply, spread_apply, addf_apply, subf_apply, scalar_apply, lows_apply, highs_apply,
    Consts.bits_eps]
  unfold Bands.norm
  beta_reduce
  rw [row_pixel, col_pixel]

/-! ## Gathering channels by number -/

section Take

variable {n : ℕ}

/-- The shape relations the gathering of `n` channels asks for. -/
structure TakeFacts (n : ℕ) : Prop where
  spread : (⟨2, ![8, n]⟩ : Shape).BroadcastsInDim ⟨4, ![8, n, 1, 1]⟩ (![0, 1] : Fin 2 → Fin 4)
  scalar : S_.BroadcastsInDim ⟨4, ![8, n, 1, 1]⟩ (![] : Fin 0 → Fin 4)
  drop : (⟨4, ![8, n, 1, 1]⟩ : Shape).ShapeCasts ⟨3, ![8, n, 1]⟩
  scalar3 : S_.BroadcastsInDim ⟨3, ![8, n, 1]⟩ (![] : Fin 0 → Fin 3)
  line : S1.BroadcastsInDim S1x1x1 (![2] : Fin 1 → Fin 3)
  bound : S1x1x1.BroadcastsInDim ⟨3, ![8, n, 1]⟩ (![0, 1, 2] : Fin 3 → Fin 3)
  all : (⟨3, ![8, n, 1]⟩ : Shape).ReducesTo [2] ⟨2, ![8, n]⟩
  one : 0 < S_.numel
  mask : (⟨2, ![8, n]⟩ : Shape).BroadcastsInDim ⟨4, ![8, n, 224, 224]⟩ (![0, 1] : Fin 2 → Fin 4)
  fill : S_.BroadcastsInDim ⟨4, ![8, n, 224, 224]⟩ (![] : Fin 0 → Fin 4)
  take : GatherDims.WF S8x96x224x224 ⟨3, ![8, n, 1]⟩ ⟨4, ![8, n, 224, 224]⟩ [2, 3] [1] [0] [1] [0] 2 ![1, 1, 224, 224]

/-- The gather's axes: the batch axis kept, the channel axis looked up, the two pixel axes whole. -/
abbrev takeDims (f : TakeFacts n) : GatherDims S8x96x224x224 ⟨3, ![8, n, 1]⟩ ⟨4, ![8, n, 224, 224]⟩ where
  offsetDims := [2, 3]
  collapsedSliceDims := [1]
  operandBatchingDims := [0]
  startIndicesBatchingDims := [0]
  startIndexMap := [1]
  indexVectorDim := 2
  sliceSizes := ![1, 1, 224, 224]
  wf := f.take

/-- THE GATHER READ AT AN INDEX: the channel whose number is looked up, read signed and clamped to the channels. -/
theorem gather_apply (f : TakeFacts n) (x : S8x96x224x224.Idx → EReal) (J : IVec (⟨3, ![8, n, 1]⟩ : Shape) 32)
    (b : Fin 8) (k : Fin n) (h w : Fin 224) :
    Host.gather (takeDims f) x J (ix4 b k h w)
      = x (ix4 b ⟨min (J (ix3 b k 0)).toInt.toNat 95, by omega⟩ h w) := by
  unfold Host.gather
  congr 1
  funext a
  refine Fin.ext ?_
  show (takeDims f).start (ix4 b k h w) J a + (takeDims f).batchCoord (ix4 b k h w) a
      + (takeDims f).offCoord (ix4 b k h w) a = _
  have ha : a = 0 ∨ a = 1 ∨ a = 2 ∨ a = 3 := match a with
    | ⟨0, _⟩ => Or.inl rfl
    | ⟨1, _⟩ => Or.inr (Or.inl rfl)
    | ⟨2, _⟩ => Or.inr (Or.inr (Or.inl rfl))
    | ⟨3, _⟩ => Or.inr (Or.inr (Or.inr rfl))
  rcases ha with rfl | rfl | rfl | rfl
  · rw [GatherDims.start_batching _ _ _ _ (show (0 : Fin 4) ∈ (takeDims f).operandBatchingDims from
        show (0 : Fin 4) ∈ ([0] : List (Fin 4)) from by decide),
      GatherDims.offCoord_eq_zero _ _ _ (show (0 : Fin 4) ∉ (takeDims f).sKept from
        show (0 : Fin 4) ∉ (S8x96x224x224.kept [1, 0] : List (Fin 4)) from by decide)]
    simp only [Nat.zero_add, Nat.add_zero]
    unfold GatherDims.batchCoord
    rw [dif_pos (show (0 : Fin 4) ∈ (takeDims f).operandBatchingDims from
        show (0 : Fin 4) ∈ ([0] : List (Fin 4)) from by decide)]
    rfl
  · rw [GatherDims.batchCoord_eq_zero _ _ _ (show (1 : Fin 4) ∉ (takeDims f).operandBatchingDims from
        show (1 : Fin 4) ∉ ([0] : List (Fin 4)) from by decide),
      GatherDims.offCoord_eq_zero _ _ _ (show (1 : Fin 4) ∉ (takeDims f).sKept from
        show (1 : Fin 4) ∉ (S8x96x224x224.kept [1, 0] : List (Fin 4)) from by decide)]
    simp only [Nat.add_zero]
    unfold GatherDims.start
    rw [dif_pos (show (1 : Fin 4) ∈ (takeDims f).startIndexMap from
        show (1 : Fin 4) ∈ ([1] : List (Fin 4)) from by decide)]
    have hsi : ∀ hl, (takeDims f).siIdx (ix4 b k h w) ⟨List.idxOf (1 : Fin 4) [1], hl⟩ = ix3 b k 0 := fun hl => by
      funext c; refine Fin.ext ?_
      match c with
      | ⟨0, _⟩ => rfl
      | ⟨1, _⟩ => rfl
      | ⟨2, _⟩ => rfl
    exact congrArg (fun i => min (J i).toInt.toNat 95) (hsi _)
  · rw [GatherDims.batchCoord_eq_zero _ _ _ (show (2 : Fin 4) ∉ (takeDims f).operandBatchingDims from
        show (2 : Fin 4) ∉ ([0] : List (Fin 4)) from by decide)]
    unfold GatherDims.start
    rw [dif_neg (show (2 : Fin 4) ∉ (takeDims f).startIndexMap from
        show (2 : Fin 4) ∉ ([1] : List (Fin 4)) from by decide)]
    simp only [Nat.zero_add, Nat.add_zero]
    unfold GatherDims.offCoord
    rw [dif_pos (show (2 : Fin 4) ∈ (takeDims f).sKept from
        show (2 : Fin 4) ∈ (S8x96x224x224.kept [1, 0] : List (Fin 4)) from by decide)]
    rfl
  · rw [GatherDims.batchCoord_eq_zero _ _ _ (show (3 : Fin 4) ∉ (takeDims f).operandBatchingDims from
        show (3 : Fin 4) ∉ ([0] : List (Fin 4)) from by decide)]
    unfold GatherDims.start
    rw [dif_neg (show (3 : Fin 4) ∉ (takeDims f).startIndexMap from
        show (3 : Fin 4) ∉ ([1] : List (Fin 4)) from by decide)]
    simp only [Nat.zero_add, Nat.add_zero]
    unfold GatherDims.offCoord
    rw [dif_pos (show (3 : Fin 4) ∈ (takeDims f).sKept from
        show (3 : Fin 4) ∈ (S8x96x224x224.kept [1, 0] : List (Fin 4)) from by decide)]
    rfl

/-- The channel numbers, one axis added for the pixels' rows and one for their columns, -/
def spreadNumbers (f : TakeFacts n) (J : IVec (⟨2, ![8, n]⟩ : Shape) 32) : IVec (⟨4, ![8, n, 1, 1]⟩ : Shape) 32 :=
  broadcastInDim ⟨4, ![8, n, 1, 1]⟩ ![0, 1] f.spread J
/-- a negative number counted from the end, and the last axis dropped. -/
def numbers (f : TakeFacts n) (J : IVec (⟨2, ![8, n]⟩ : Shape) 32) : IVec (⟨3, ![8, n, 1]⟩ : Shape) 32 :=
  shapeCast _ (select
    (cmpi .slt (spreadNumbers f J) (broadcastInDim ⟨4, ![8, n, 1, 1]⟩ ![] f.scalar (constantI S_ 32 0#32)))
    (addi (spreadNumbers f J) (broadcastInDim ⟨4, ![8, n, 1, 1]⟩ ![] f.scalar (constantI S_ 32 96#32)))
    (spreadNumbers f J)) f.drop
/-- Whether a number is a channel's, -/
def inside (f : TakeFacts n) (J : IVec (⟨2, ![8, n]⟩ : Shape) 32) : IVec (⟨2, ![8, n]⟩ : Shape) 1 :=
  Host.reduce IntOp.andi
    (andi (cmpi .sge (numbers f J) (broadcastInDim ⟨3, ![8, n, 1]⟩ ![] f.scalar3 (constantI S_ 32 0#32)))
      (cmpi .sle (numbers f J) (broadcastInDim ⟨3, ![8, n, 1]⟩ ![0, 1, 2] f.bound
        (broadcastInDim S1x1x1 ![2] f.line (constantI S1 32 95#32)))))
    (constantI S_ 1 1#1) f.all f.one
/-- and the channels of those numbers, as the reference gathers them. -/
def taken (f : TakeFacts n) (J : IVec (⟨2, ![8, n]⟩ : Shape) 32) (x : S8x96x224x224.Idx → EReal) :
    (⟨4, ![8, n, 224, 224]⟩ : Shape).Idx → EReal :=
  select (broadcastInDim ⟨4, ![8, n, 224, 224]⟩ ![0, 1] f.mask (inside f J))
    (Host.gather (takeDims f) x (numbers f J))
    (broadcastInDim ⟨4, ![8, n, 224, 224]⟩ ![] f.fill (constant (F := Ideal) S_ .f32 0x7FC00000#32))

variable (f : TakeFacts n) (J : IVec (⟨2, ![8, n]⟩ : Shape) 32) (π : Fin 8 → Fin n → Fin 96)

theorem spreadNumbers_apply (b : Fin 8) (k : Fin n) : spreadNumbers f J (ix4 b k 0 0) = J (ix2 b k) := by
  unfold spreadNumbers
  refine broadcastInDim_apply _ _ J _ _ fun a => ?_
  match a with
  | ⟨0, _⟩ => rfl
  | ⟨1, _⟩ =>
    show k.val = if n = 1 then 0 else k.val
    split
    · omega
    · rfl

theorem not_negative : ∀ k : Fin 96, IntOp.cmpi .slt (BitVec.ofNat 32 k.val) 0#32 = 0#1 := by decide
theorem from_zero : ∀ k : Fin 96, IntOp.cmpi .sge (BitVec.ofNat 32 k.val) 0#32 = 1#1 := by decide
theorem to_last : ∀ k : Fin 96, IntOp.cmpi .sle (BitVec.ofNat 32 k.val) 95#32 = 1#1 := by decide
theorem number_toNat : ∀ k : Fin 96, min (BitVec.ofNat 32 k.val).toInt.toNat 95 = k.val := by decide

variable {J π}

/-- A channel's number is left as it is, -/
theorem numbers_apply (hJ : ∀ b k, J (ix2 b k) = BitVec.ofNat 32 (π b k).val) (b : Fin 8) (k : Fin n) (z : Fin 1) :
    numbers f J (ix3 b k z) = BitVec.ofNat 32 (π b k).val := by
  unfold numbers
  rw [shapeCast_apply _ _ _ (ix4 b k 0 0) (by
    rw [Shape.rowMajor_val_four, Shape.rowMajor_val_three]
    show ((b.val * n + k.val) * 1 + 0) * 1 + 0 = (b.val * n + k.val) * 1 + z.val
    omega)]
  show Scalar.select (IntOp.cmpi .slt (spreadNumbers f J (ix4 b k 0 0)) 0#32) _ (spreadNumbers f J (ix4 b k 0 0)) = _
  rw [spreadNumbers_apply, hJ, not_negative, select_zero]

/-- it is a channel's, -/
theorem inside_apply (hJ : ∀ b k, J (ix2 b k) = BitVec.ofNat 32 (π b k).val) (i : (⟨2, ![8, n]⟩ : Shape).Idx) :
    inside f J i = 1#1 := by
  unfold inside
  refine Host.reduce_andi_one _ _ _ _ _ rfl fun j => ?_
  have hj : numbers f J j = _ := (congrArg (numbers f J) (eq_ix3 j)).trans (numbers_apply f hJ (j 0) (j 1) (j 2))
  show IntOp.andi (IntOp.cmpi .sge (numbers f J j) 0#32) (IntOp.cmpi .sle (numbers f J j) 95#32) = 1#1
  rw [hj, from_zero, to_last]
  rfl

/-- and the channel gathered is the channel of that number. -/
theorem taken_apply (hJ : ∀ b k, J (ix2 b k) = BitVec.ofNat 32 (π b k).val) (x : S8x96x224x224.Idx → EReal)
    (b : Fin 8) (k : Fin n) (h w : Fin 224) :
    taken f J x (ix4 b k h w) = x (ix4 b (π b k) h w) := by
  show Scalar.select (inside f J _) (Host.gather (takeDims f) x (numbers f J) (ix4 b k h w)) _ = _
  rw [inside_apply f hJ, select_one, gather_apply]
  refine congrArg (fun c => x (ix4 b c h w)) (Fin.ext ?_)
  show min (numbers f J (ix3 b k 0)).toInt.toNat 95 = _
  rw [numbers_apply f hJ, number_toNat]

end Take

/-! ## The mean over a group of channels -/

/-- The mean image of `n` channels, as the reference writes it: their sum, divided by a literal. -/
def mean {n : ℕ} (hr : (⟨4, ![8, n, 224, 224]⟩ : Shape).ReducesTo [1] S8x224x224) (bits : BitVec 32)
    (Y : (⟨4, ![8, n, 224, 224]⟩ : Shape).Idx → EReal) : S8x1x224x224.Idx → EReal :=
  Host.divf (F := Ideal) (φ := .f32)
    (broadcastInDim S8x1x224x224 ![0, 2, 3] Facts₀.bcast_S8x224x224_S8x1x224x224_0_2_3
      (Host.reduceAdd (F := Ideal) (φ := .f32) Y (constant (F := Ideal) S_ .f32 0x00000000#32) hr Facts₀.h_S_))
    (broadcastInDim S8x1x224x224 ![] Facts₀.bcast_S_S8x1x224x224 (constant (F := Ideal) S_ .f32 bits))

theorem mean_apply {n : ℕ} (hr : (⟨4, ![8, n, 224, 224]⟩ : Shape).ReducesTo [1] S8x224x224)
    (hR : (⟨4, ![8, n, 224, 224]⟩ : Shape).Reduces [1] S8x224x224) {bits : BitVec 32} {r : ℝ}
    (hb : Ideal.ofBits .f32 bits = (r : EReal)) (h0 : r ≠ 0) (Y : (⟨4, ![8, n, 224, 224]⟩ : Shape).Idx → EReal)
    (b : Fin 8) (h w : Fin 224) :
    mean hr bits Y (ix4 b 0 h w) = (∑ k : Fin n, Y (ix4 b k h w)) * ((1 / r : ℝ) : EReal) := by
  unfold mean
  rw [hostDivf_apply, broadcastInDim_apply _ _ _ _ (ix3 b h w) (fun a => match a with
    | ⟨0, _⟩ => rfl
    | ⟨1, _⟩ => rfl
    | ⟨2, _⟩ => rfl)]
  rw [broadcastInDim_apply _ _ (constant (F := Ideal) S_ .f32 bits) _ ix0 (fun a => a.elim0)]
  show Ideal.div _ (Ideal.ofBits .f32 bits) = _
  rw [hb, Ideal.div_coe h0]
  refine congrArg (fun s => s * _) ?_
  simp only [Host.reduceAdd, Ideal.hostReduceAdd_def]
  rw [Ideal.hostReduceAdd_single hr hR]
  show Ideal.ofBits .f32 0x00000000#32 + _ = _
  rw [Consts.bits_zero, zero_add]
  refine Finset.sum_congr rfl fun k _ => ?_
  exact congrArg Y (funext fun a => Fin.ext (by match a with | ⟨0, _⟩ => rfl | ⟨1, _⟩ => rfl | ⟨2, _⟩ => rfl | ⟨3, _⟩ => rfl))

end Cert.Proof.RefParts

end
-- ==== Proof.RefValue.lean ====
/- What the reference's program leaves in its result array: the specification's result. -/
module

public import proofs.«01_k».proof.Proof.RefParts

@[expose] public section

noncomputable section

namespace Cert.Proof.RefValue

open Cert.ReferenceIdeal Cert.ReferenceIdeal.Gen Cert.ReferenceIdeal.Read Idealize.ShloMosaic Idealize.ShloMosaic.ValueIdx
open Cert.Proof Cert.Proof.Spec Cert.Proof.RefParts

variable (x : S8x96x224x224.Idx → EReal)

/-! ## The channels sorted -/

/-- A channel's mean: its score over the number of its pixels. -/
theorem mean_score (b : Fin 8) (c : Fin 96) :
    val_main_v3 (F := Ideal) x (ix2 b c) = score (image x b) c * ((1 / 50176 : ℝ) : EReal) := by
  rw [val_main_v3_apply, val_main_v1_apply, val_main_v2_apply, Ideal.hostDivf_def, val_main_cst_apply,
    val_main_cst_0_apply, Ideal.ofBits_def, Ideal.ofBits_def, Consts.bits_50176, Consts.bits_zero, zero_add, Ideal.div_coe (by norm_num)]
  unfold score
  refine congrArg (fun s => s * ((1 / 50176 : ℝ) : EReal)) ?_
  refine Finset.sum_congr rfl fun p _ => ?_
  rw [val_main_v0_apply]
  refine congrArg x (funext fun a => Fin.ext ?_)
  have hb := b.isLt
  have hc := c.isLt
  have hp := p.isLt
  match a with
  | ⟨0, _⟩ => show ((b.val * 96 + c.val) * 50176 + p.val) / 4816896 = b.val; omega
  | ⟨1, _⟩ => show ((b.val * 96 + c.val) * 50176 + p.val) / 50176 % 96 = c.val; omega
  | ⟨2, _⟩ => show ((b.val * 96 + c.val) * 50176 + p.val) / 224 % 224 = p.val / 224; omega
  | ⟨3, _⟩ => show ((b.val * 96 + c.val) * 50176 + p.val) % 224 = p.val % 224; omega

/-- Means compare as the scores do. -/
theorem mul_lt_mul_iff (a b : EReal) {r : ℝ} (hr : 0 < r) : a * (r : EReal) < b * (r : EReal) ↔ a < b := by
  have key : ∀ u v : EReal, ∀ q : ℝ, 0 < q → u ≤ v → u * (q : EReal) ≤ v * (q : EReal) := fun u v q hq h =>
    mul_le_mul_of_nonneg_right h (EReal.coe_nonneg.mpr hq.le)
  have back : ∀ u : EReal, u * (r : EReal) * ((r⁻¹ : ℝ) : EReal) = u := fun u => by
    rw [mul_assoc, ← EReal.coe_mul, mul_inv_cancel₀ hr.ne', EReal.coe_one, mul_one]
  rw [← not_le, ← not_le]
  refine not_congr ⟨fun h => ?_, key _ _ r hr⟩
  have := key _ _ r⁻¹ (inv_pos.mpr hr) h
  rwa [back, back] at this

/-- The comparator of the sort: less than, on the keys. -/
theorem comparator_eq (l r : EReal × BitVec 32) :
    comparator_f32_i32_d1 (F := Ideal) l r = BitVec.ofBool (decide (l.1 < r.1)) := by
  have une : ∀ y : EReal, FloatOps.cmpf (F := Ideal) (φ := .f32) .une y y = 0#1 := fun y => by
    show BitVec.ofBool (decide (y ≠ y)) = 0#1
    simp
  have zero : ∀ y : EReal, Scalar.select (FloatOps.cmpf (F := Ideal) (φ := .f32) .oeq y (Ideal.ofBits .f32 0x00000000#32))
      (Ideal.ofBits .f32 0x00000000#32) y = y := fun y => by
    rw [Consts.bits_zero]
    show Scalar.select (BitVec.ofBool (decide (y = 0))) 0 y = y
    by_cases h : y = 0
    · rw [decide_eq_true h, h]; rfl
    · rw [decide_eq_false h]; rfl
  show FloatOps.cmpfTotal (F := Ideal) (φ := .f32) .lt
    (Scalar.select (FloatOps.cmpf (F := Ideal) (φ := .f32) .une l.1 l.1) _ (Scalar.select _ _ l.1))
    (Scalar.select (FloatOps.cmpf (F := Ideal) (φ := .f32) .une r.1 r.1) _ (Scalar.select _ _ r.1)) = _
  rw [une, une, select_zero, select_zero]
  simp only [Ideal.ofBits_def]
  rw [zero, zero]
  rfl

/-- The coordinate on the second axis replaced. -/
theorem along_ix2 {m n : ℕ} (b : Fin m) (k k' : Fin n) :
    (ix2 b k : (⟨2, ![m, n]⟩ : Shape).Idx).along (1 : Fin 2) k' = ix2 b k' := by
  funext a
  match a with
  | ⟨0, _⟩ => rfl
  | ⟨1, _⟩ => rfl

/-- The sort of two arrays along the second axis: the second one, read at an index. -/
theorem sort2_apply {m n : ℕ} {α β : Type} (cmp : α × β → α × β → BitVec 1) (u : (⟨2, ![m, n]⟩ : Shape).Idx → α)
    (v : (⟨2, ![m, n]⟩ : Shape).Idx → β) (b : Fin m) (k : Fin n) :
    (Host.sort2 ⟨2, ![m, n]⟩ 1 cmp u v).2 (ix2 b k)
      = v (ix2 b (sortedFrom (fun i j => cmp (u (ix2 b i), v (ix2 b i)) (u (ix2 b j), v (ix2 b j)) == 1#1) k)) := by
  unfold Host.sort2
  rw [dif_pos (show 1 < (⟨2, ![m, n]⟩ : Shape).rank from Nat.one_lt_two)]
  refine congrArg v ((along_ix2 b k _).trans (congrArg (ix2 b) ?_))
  refine congrArg (fun R => sortedFrom R k) (funext fun i => funext fun j => ?_)
  have h : ∀ k' : Fin n, (ix2 b k : (⟨2, ![m, n]⟩ : Shape).Idx).along (1 : Fin 2) k' = ix2 b k' := along_ix2 b k
  rw [← h i, ← h j]
  rfl

/-- THE SORTED NUMBERS: at place `k`, the channel sorted there by score. -/
theorem sorted_numbers (b : Fin 8) (k : Fin 96) :
    val_main_v4 (F := Ideal) x (ix2 b k) = BitVec.ofNat 32 (Rank.sorted (score (image x b)) k).val := by
  have hs : Rank.sorted (fun c => val_main_v3 (F := Ideal) x (ix2 b c)) = Rank.sorted (score (image x b)) :=
    Rank.sorted_congr fun i j => by
      rw [mean_score, mean_score]; exact mul_lt_mul_iff _ _ (by norm_num)
  unfold val_main_v4
  rw [sort2_apply, val_main_call0_v0_apply, ← hs]
  unfold Rank.sorted
  have hR : (fun i j : Fin 96 => comparator_f32_i32_d1 (F := Ideal)
        (val_main_v3 (F := Ideal) x (ix2 b i), val_main_call0_v0 (F := Ideal) (ix2 b i))
        (val_main_v3 (F := Ideal) x (ix2 b j), val_main_call0_v0 (F := Ideal) (ix2 b j)) == 1#1)
      = fun i j => decide (val_main_v3 (F := Ideal) x (ix2 b i) < val_main_v3 (F := Ideal) x (ix2 b j)) :=
    funext fun i => funext fun j => by
      rw [comparator_eq]
      cases decide (val_main_v3 (F := Ideal) x (ix2 b i) < val_main_v3 (F := Ideal) x (ix2 b j)) <;> rfl
  exact congrArg (fun R => BitVec.ofNat 32 (sortedFrom (n := 96) R k).val) hR

/-! ## The four bands -/

/-- The shape relations of the gathering of 32 channels. -/
theorem facts32 : TakeFacts 32 :=
  ⟨Facts₀.bcast_S8x32_S8x32x1x1_0_1, Facts₀.bcast_S_S8x32x1x1, Facts₀.shapeCasts_S8x32x1x1_S8x32x1,
    Facts₀.bcast_S_S8x32x1, Facts₀.bcast_S1_S1x1x1_2, Facts₀.bcast_S1x1x1_S8x32x1_0_1_2,
    Facts₀.reducesTo_S8x32x1_S8x32_d2, Facts₀.h_S_, Facts₀.bcast_S8x32_S8x32x224x224_0_1,
    Facts₀.bcast_S_S8x32x224x224, Facts₀.gather_S8x96x224x224_S8x32x1_S8x32x224x224_23_1_0_0_1_2_11224224_wf⟩

theorem reduces_32 : (⟨4, ![8, 32, 224, 224]⟩ : Shape).Reduces [1] S8x224x224 := by decide

/-- The shape relations of the gathering of 64 channels. -/
theorem facts64 : TakeFacts 64 :=
  ⟨Facts₀.bcast_S8x64_S8x64x1x1_0_1, Facts₀.bcast_S_S8x64x1x1, Facts₀.shapeCasts_S8x64x1x1_S8x64x1,
    Facts₀.bcast_S_S8x64x1, Facts₀.bcast_S1_S1x1x1_2, Facts₀.bcast_S1x1x1_S8x64x1_0_1_2,
    Facts₀.reducesTo_S8x64x1_S8x64_d2, Facts₀.h_S_, Facts₀.bcast_S8x64_S8x64x224x224_0_1,
    Facts₀.bcast_S_S8x64x224x224, Facts₀.gather_S8x96x224x224_S8x64x1_S8x64x224x224_23_1_0_0_1_2_11224224_wf⟩

theorem reduces_64 : (⟨4, ![8, 64, 224, 224]⟩ : Shape).Reduces [1] S8x224x224 := by decide

/-- Band 0's image: the sorted channels, the first 32 against the other 64. -/
theorem image_0 (b : Fin 8) (p : Fin 50176) :
    val_main_v19 (F := Ideal) x (ix4 b 0 (row p) (col p))
      = Bands.gap (fun c => place (image x b) 0 c < cut 0) (lowWeight 0) (highWeight 0) (image x b) p := by
  have hlow : val_main_v14 (F := Ideal) x
      = mean Facts₀.reducesTo_S8x32x224x224_S8x224x224_d1 0x42000000#32 (taken facts32 (val_main_v5 (F := Ideal) x) x) := rfl
  have hhigh : val_main_v18 (F := Ideal) x
      = mean Facts₀.reducesTo_S8x64x224x224_S8x224x224_d1 0x42800000#32 (taken facts64 (val_main_v6 (F := Ideal) x) x) := rfl
  have nlow : ∀ b k, val_main_v5 (F := Ideal) x (ix2 b k)
      = BitVec.ofNat 32 (Rank.sorted (score (image x b)) (Fin.castAdd 64 k)).val := fun b k => by
    rw [val_main_v5_apply, ← sorted_numbers]
    exact congrArg (val_main_v4 (F := Ideal) x) (funext fun a => Fin.ext (by
      match a with | ⟨0, _⟩ => rfl | ⟨1, _⟩ => rfl))
  have nhigh : ∀ b k, val_main_v6 (F := Ideal) x (ix2 b k)
      = BitVec.ofNat 32 (Rank.sorted (score (image x b)) (Fin.natAdd 32 k)).val := fun b k => by
    rw [val_main_v6_apply, ← sorted_numbers]
    exact congrArg (val_main_v4 (F := Ideal) x) (funext fun a => Fin.ext (by
      match a with | ⟨0, _⟩ => rfl | ⟨1, _⟩ => rfl))
  rw [val_main_v19_apply, Ideal.subf_def, hlow, hhigh,
    mean_apply _ reduces_32 Consts.bits_32 (by norm_num), mean_apply _ reduces_64 Consts.bits_64 (by norm_num),
    show lowWeight 0 = 1 / 32 from by simp [lowWeight], show highWeight 0 = 1 / 64 from by simp [highWeight]]
  simp only [taken_apply facts32 nlow, taken_apply facts64 nhigh]
  exact Bands.gap_along (n := 32) (m := 64) (image x b) (Rank.sorted (score (image x b))) (Rank.sorted_bijective _)
    (Rank.rank (score (image x b))) (Rank.rank_sorted _) (1 / 32) (1 / 64) p

/-- Band 1's image: the sorted channels, the first 64 against the other 32. -/
theorem image_1 (b : Fin 8) (p : Fin 50176) :
    val_main_v47 (F := Ideal) x (ix4 b 0 (row p) (col p))
      = Bands.gap (fun c => place (image x b) 1 c < cut 1) (lowWeight 1) (highWeight 1) (image x b) p := by
  have hlow : val_main_v42 (F := Ideal) x
      = mean Facts₀.reducesTo_S8x64x224x224_S8x224x224_d1 0x42800000#32 (taken facts64 (val_main_v33 (F := Ideal) x) x) := rfl
  have hhigh : val_main_v46 (F := Ideal) x
      = mean Facts₀.reducesTo_S8x32x224x224_S8x224x224_d1 0x42000000#32 (taken facts32 (val_main_v34 (F := Ideal) x) x) := rfl
  have nlow : ∀ b k, val_main_v33 (F := Ideal) x (ix2 b k)
      = BitVec.ofNat 32 (Rank.sorted (score (image x b)) (Fin.castAdd 32 k)).val := fun b k => by
    rw [val_main_v33_apply, ← sorted_numbers]
    exact congrArg (val_main_v4 (F := Ideal) x) (funext fun a => Fin.ext (by
      match a with | ⟨0, _⟩ => rfl | ⟨1, _⟩ => rfl))
  have nhigh : ∀ b k, val_main_v34 (F := Ideal) x (ix2 b k)
      = BitVec.ofNat 32 (Rank.sorted (score (image x b)) (Fin.natAdd 64 k)).val := fun b k => by
    rw [val_main_v34_apply, ← sorted_numbers]
    exact congrArg (val_main_v4 (F := Ideal) x) (funext fun a => Fin.ext (by
      match a with | ⟨0, _⟩ => rfl | ⟨1, _⟩ => rfl))
  rw [val_main_v47_apply, Ideal.subf_def, hlow, hhigh,
    mean_apply _ reduces_64 Consts.bits_64 (by norm_num), mean_apply _ reduces_32 Consts.bits_32 (by norm_num),
    show lowWeight 1 = 1 / 64 from by simp [lowWeight], show highWeight 1 = 1 / 32 from by simp [highWeight]]
  simp only [taken_apply facts64 nlow, taken_apply facts32 nhigh]
  exact Bands.gap_along (n := 64) (m := 32) (image x b) (Rank.sorted (score (image x b))) (Rank.sorted_bijective _)
    (Rank.rank (score (image x b))) (Rank.rank_sorted _) (1 / 64) (1 / 32) p

/-- Band 2's image: the channels as they are, the first 32 against the other 64. -/
theorem image_2 (b : Fin 8) (p : Fin 50176) :
    val_main_v72 (F := Ideal) x (ix4 b 0 (row p) (col p))
      = Bands.gap (fun c => place (image x b) 2 c < cut 2) (lowWeight 2) (highWeight 2) (image x b) p := by
  have hlow : val_main_v67 (F := Ideal) x
      = mean Facts₀.reducesTo_S8x32x224x224_S8x224x224_d1 0x42000000#32 (val_main_v62 (F := Ideal) x) := rfl
  have hhigh : val_main_v71 (F := Ideal) x
      = mean Facts₀.reducesTo_S8x64x224x224_S8x224x224_d1 0x42800000#32 (val_main_v63 (F := Ideal) x) := rfl
  have nlow : ∀ b k h w, val_main_v62 (F := Ideal) x (ix4 b k h w) = x (ix4 b (Fin.castAdd 64 k) h w) :=
    fun b k h w => by
      rw [val_main_v62_apply]
      exact congrArg x (funext fun a => Fin.ext (by
        match a with | ⟨0, _⟩ => rfl | ⟨1, _⟩ => rfl | ⟨2, _⟩ => rfl | ⟨3, _⟩ => rfl))
  have nhigh : ∀ b k h w, val_main_v63 (F := Ideal) x (ix4 b k h w) = x (ix4 b (Fin.natAdd 32 k) h w) :=
    fun b k h w => by
      rw [val_main_v63_apply]
      exact congrArg x (funext fun a => Fin.ext (by
        match a with | ⟨0, _⟩ => rfl | ⟨1, _⟩ => rfl | ⟨2, _⟩ => rfl | ⟨3, _⟩ => rfl))
  rw [val_main_v72_apply, Ideal.subf_def, hlow, hhigh,
    mean_apply _ reduces_32 Consts.bits_32 (by norm_num), mean_apply _ reduces_64 Consts.bits_64 (by norm_num),
    show lowWeight 2 = 1 / 32 from by simp [lowWeight], show highWeight 2 = 1 / 64 from by simp [highWeight]]
  simp only [nlow, nhigh]
  exact Bands.gap_along (n := 32) (m := 64) (image x b) id Function.bijective_id Fin.val (fun _ => rfl) (1 / 32) (1 / 64) p

/-- Band 3's image: the channels as they are, the first 64 against the other 32. -/
theorem image_3 (b : Fin 8) (p : Fin 50176) :
    val_main_v96 (F := Ideal) x (ix4 b 0 (row p) (col p))
      = Bands.gap (fun c => place (image x b) 3 c < cut 3) (lowWeight 3) (highWeight 3) (image x b) p := by
  have hlow : val_main_v91 (F := Ideal) x
      = mean Facts₀.reducesTo_S8x64x224x224_S8x224x224_d1 0x42800000#32 (val_main_v86 (F := Ideal) x) := rfl
  have hhigh : val_main_v95 (F := Ideal) x
      = mean Facts₀.reducesTo_S8x32x224x224_S8x224x224_d1 0x42000000#32 (val_main_v87 (F := Ideal) x) := rfl
  have nlow : ∀ b k h w, val_main_v86 (F := Ideal) x (ix4 b k h w) = x (ix4 b (Fin.castAdd 32 k) h w) :=
    fun b k h w => by
      rw [val_main_v86_apply]
      exact congrArg x (funext fun a => Fin.ext (by
        match a with | ⟨0, _⟩ => rfl | ⟨1, _⟩ => rfl | ⟨2, _⟩ => rfl | ⟨3, _⟩ => rfl))
  have nhigh : ∀ b k h w, val_main_v87 (F := Ideal) x (ix4 b k h w) = x (ix4 b (Fin.natAdd 64 k) h w) :=
    fun b k h w => by
      rw [val_main_v87_apply]
      exact congrArg x (funext fun a => Fin.ext (by
        match a with | ⟨0, _⟩ => rfl | ⟨1, _⟩ => rfl | ⟨2, _⟩ => rfl | ⟨3, _⟩ => rfl))
  rw [val_main_v96_apply, Ideal.subf_def, hlow, hhigh,
    mean_apply _ reduces_64 Consts.bits_64 (by norm_num), mean_apply _ reduces_32 Consts.bits_32 (by norm_num),
    show lowWeight 3 = 1 / 64 from by simp [lowWeight], show highWeight 3 = 1 / 32 from by simp [highWeight]]
  simp only [nlow, nhigh]
  exact Bands.gap_along (n := 64) (m := 32) (image x b) id Function.bijective_id Fin.val (fun _ => rfl) (1 / 64) (1 / 32) p

/-! ## The bands normalised -/

theorem band_0 (b : Fin 8) (h w : Fin 224) :
    val_main_v32 (F := Ideal) x (ix4 b 0 h w) = band (image x b) 0 (pixel h w) := by
  have hn : val_main_v32 (F := Ideal) x = normalised (val_main_v19 (F := Ideal) x) := rfl
  rw [hn, normalised_apply, funext (image_0 x b)]
  rfl

theorem band_1 (b : Fin 8) (h w : Fin 224) :
    val_main_v60 (F := Ideal) x (ix4 b 0 h w) = band (image x b) 1 (pixel h w) := by
  have hn : val_main_v60 (F := Ideal) x = normalised (val_main_v47 (F := Ideal) x) := rfl
  rw [hn, normalised_apply, funext (image_1 x b)]
  rfl

theorem band_2 (b : Fin 8) (h w : Fin 224) :
    val_main_v85 (F := Ideal) x (ix4 b 0 h w) = band (image x b) 2 (pixel h w) := by
  have hn : val_main_v85 (F := Ideal) x = normalised (val_main_v72 (F := Ideal) x) := rfl
  rw [hn, normalised_apply, funext (image_2 x b)]
  rfl

theorem band_3 (b : Fin 8) (h w : Fin 224) :
    val_main_v109 (F := Ideal) x (ix4 b 0 h w) = band (image x b) 3 (pixel h w) := by
  have hn : val_main_v109 (F := Ideal) x = normalised (val_main_v96 (F := Ideal) x) := rfl
  rw [hn, normalised_apply, funext (image_3 x b)]
  rfl

/-- Two images joined along the band axis: the first, -/
theorem join_left (u v : S8x1x224x224.Idx → EReal) (b : Fin 8) (h w : Fin 224) :
    concatenate S8x2x224x224 1 [⟨S8x1x224x224, u⟩, ⟨S8x1x224x224, v⟩]
      Facts₀.concatenates_S8x1x224x224_S8x1x224x224_S8x2x224x224_d1 (ix4 b 0 h w) = u (ix4 b 0 h w) :=
  concatenate_pair_apply_left (t := S8x2x224x224) (s₁ := S8x1x224x224) (s₂ := S8x1x224x224) 1 u v _ _ rfl (ix4 b 0 h w) fun a => by
    match a with
    | ⟨0, _⟩ => rfl
    | ⟨1, _⟩ => rfl
    | ⟨2, _⟩ => rfl
    | ⟨3, _⟩ => rfl
/-- and the second. -/
theorem join_right (u v : S8x1x224x224.Idx → EReal) (b : Fin 8) (h w : Fin 224) :
    concatenate S8x2x224x224 1 [⟨S8x1x224x224, u⟩, ⟨S8x1x224x224, v⟩]
      Facts₀.concatenates_S8x1x224x224_S8x1x224x224_S8x2x224x224_d1 (ix4 b 1 h w) = v (ix4 b 0 h w) :=
  concatenate_pair_apply_right (t := S8x2x224x224) (s₁ := S8x1x224x224) (s₂ := S8x1x224x224) 1 u v _ _ rfl rfl (ix4 b 0 h w)
    (fun a ha => by
      match a, ha with
      | ⟨0, _⟩, _ => rfl
      | ⟨1, _⟩, ha => exact absurd rfl ha
      | ⟨2, _⟩, _ => rfl
      | ⟨3, _⟩, _ => rfl) rfl
/-- Two pairs joined: the first pair, -/
theorem pair_left (u v : S8x2x224x224.Idx → EReal) (b : Fin 8) (r : Fin 2) (h w : Fin 224) :
    concatenate S8x4x224x224 1 [⟨S8x2x224x224, u⟩, ⟨S8x2x224x224, v⟩]
      Facts₀.concatenates_S8x2x224x224_S8x2x224x224_S8x4x224x224_d1 (ix4 b (Fin.castAdd 2 r) h w) = u (ix4 b r h w) :=
  concatenate_pair_apply_left (t := S8x4x224x224) (s₁ := S8x2x224x224) (s₂ := S8x2x224x224) 1 u v _ _ rfl (ix4 b r h w) fun a => by
    match a with
    | ⟨0, _⟩ => rfl
    | ⟨1, _⟩ => rfl
    | ⟨2, _⟩ => rfl
    | ⟨3, _⟩ => rfl
/-- and the second. -/
theorem pair_right (u v : S8x2x224x224.Idx → EReal) (b : Fin 8) (r : Fin 2) (h w : Fin 224) :
    concatenate S8x4x224x224 1 [⟨S8x2x224x224, u⟩, ⟨S8x2x224x224, v⟩]
      Facts₀.concatenates_S8x2x224x224_S8x2x224x224_S8x4x224x224_d1 (ix4 b (Fin.natAdd 2 r) h w) = v (ix4 b r h w) :=
  concatenate_pair_apply_right (t := S8x4x224x224) (s₁ := S8x2x224x224) (s₂ := S8x2x224x224) 1 u v _ _ rfl rfl (ix4 b r h w)
    (fun a ha => by
      match a, ha with
      | ⟨0, _⟩, _ => rfl
      | ⟨1, _⟩, ha => exact absurd rfl ha
      | ⟨2, _⟩, _ => rfl
      | ⟨3, _⟩, _ => rfl) (Nat.add_comm r.val 2)

/-- THE REFERENCE'S RESULT is the specification's. -/
theorem value : val_main_v111 (F := Ideal) x = result x := by
  funext j
  obtain ⟨b, r, h, w, rfl⟩ : ∃ (b : Fin 8) (r : Fin 4) (h w : Fin 224), j = ix4 b r h w :=
    ⟨j 0, j 1, j 2, j 3, eq_ix4 j⟩
  show val_main_v111 (F := Ideal) x (ix4 b r h w) = band (image x b) r (pixel h w)
  unfold val_main_v111
  match r with
  | ⟨0, _⟩ => exact (pair_left _ _ b 0 h w).trans ((join_left _ _ b h w).trans (band_0 x b h w))
  | ⟨1, _⟩ => exact (pair_left _ _ b 1 h w).trans ((join_right _ _ b h w).trans (band_1 x b h w))
  | ⟨2, _⟩ => exact (pair_right _ _ b 0 h w).trans ((join_left _ _ b h w).trans (band_2 x b h w))
  | ⟨3, _⟩ => exact (pair_right _ _ b 1 h w).trans ((join_right _ _ b h w).trans (band_3 x b h w))

end Cert.Proof.RefValue

end
-- ==== Proof.Shapes.lean ====
/- How the layout operations and the reductions of the kernel read at an index, for any sizes. -/
module

public import proofs.«01_k».proof.Proof.Spec
public import Idealize.ShloMosaic.Lib.Pipeline.Value
public import Idealize.ShloMosaic.PureOps.Ideal.Laws

@[expose] public section

noncomputable section

namespace Cert.Proof.Shapes

open Idealize.ShloMosaic Idealize.ShloMosaic.ValueIdx

/-- The shape of `n` numbers. -/
abbrev Line (n : ℕ) : Shape := ⟨1, ![n]⟩
/-- The shape of `m` rows of `n` numbers. -/
abbrev Sheet (m n : ℕ) : Shape := ⟨2, ![m, n]⟩

variable {α : Type} {m n : ℕ}

/-! ## Layout -/

/-- A line written as a column. -/
theorem column_apply (x : (Line m).Idx → α) (h : (Line m).ShapeCasts (Sheet m 1)) (i : Fin m) :
    shapeCast (Sheet m 1) x h (ix2 i 0) = x (ix1 i) :=
  shapeCast_apply x h _ _ (by rw [Shape.rowMajor_val_one, Shape.rowMajor_val_two]; show i.val = i.val * 1 + 0; omega)

/-- A column laid down as a row. -/
theorem flat_apply (x : (Sheet m 1).Idx → α) (h : (Sheet m 1).ShapeCasts (Sheet 1 m)) (i : Fin m) :
    shapeCast (Sheet 1 m) x h (ix2 0 i) = x (ix2 i 0) :=
  shapeCast_apply x h _ _ (by
    rw [Shape.rowMajor_val_two, Shape.rowMajor_val_two]; show i.val * 1 + 0 = 0 * m + i.val; omega)

/-- A column repeated along the rows. -/
theorem spread_column (hm : m ≠ 1) (x : (Sheet m 1).Idx → α) (h : (Sheet m 1).Broadcasts (Sheet m n)) (i : Fin m) (j : Fin n) :
    broadcastTo (Sheet m n) x h (ix2 i j) = x (ix2 i 0) :=
  broadcastTo_apply x h _ _ (fun a => by
    match a with
    | ⟨0, _⟩ => exact (if_neg hm).symm
    | ⟨1, _⟩ => rfl)

/-- A row repeated down the columns. -/
theorem spread_row (hn : n ≠ 1) (x : (Sheet 1 n).Idx → α) (h : (Sheet 1 n).Broadcasts (Sheet m n)) (i : Fin m) (j : Fin n) :
    broadcastTo (Sheet m n) x h (ix2 i j) = x (ix2 0 j) :=
  broadcastTo_apply x h _ _ (fun a => by
    match a with
    | ⟨0, _⟩ => rfl
    | ⟨1, _⟩ => exact (if_neg hn).symm)

/-- A block with a leading axis of one element, seen without that axis. -/
theorem opened_apply (x : (⟨3, ![1, m, n]⟩ : Shape).Idx → α) (h : (⟨3, ![1, m, n]⟩ : Shape).ShapeCasts (Sheet m n))
    (i : Fin m) (j : Fin n) : shapeCast (Sheet m n) x h (ix2 i j) = x (ix3 0 i j) :=
  shapeCast_apply x h _ _ (by
    rw [Shape.rowMajor_val_three, Shape.rowMajor_val_two]
    show (0 * m + i.val) * n + j.val = i.val * n + j.val; rw [zero_mul, zero_add])

/-- A sheet given a leading axis of one element. -/
theorem closed_apply (x : (Sheet m n).Idx → α) (h : (Sheet m n).ShapeCasts (⟨3, ![1, m, n]⟩ : Shape))
    (i : Fin m) (j : Fin n) : shapeCast (⟨3, ![1, m, n]⟩ : Shape) x h (ix3 0 i j) = x (ix2 i j) :=
  shapeCast_apply x h _ _ (by
    rw [Shape.rowMajor_val_three, Shape.rowMajor_val_two]
    show i.val * n + j.val = (0 * m + i.val) * n + j.val; rw [zero_mul, zero_add])

/-- The first rows of a sheet. -/
theorem first_rows_apply {k : ℕ} (x : (Sheet m n).Idx → α) (h : (Sheet m n).Slices ![0, 0] (Sheet k n)) (hk : k ≤ m)
    (i : Fin k) (j : Fin n) : extractStridedSlice (Sheet k n) ![0, 0] x h (ix2 i j) = x (ix2 (i.castLE hk) j) :=
  extractStridedSlice_apply _ x h _ _ (fun a => by
    match a with
    | ⟨0, _⟩ => exact (Nat.zero_add _).symm
    | ⟨1, _⟩ => exact (Nat.zero_add _).symm)

/-- The number of the row. -/
theorem row_number (h : (Sheet m n).Iotas .tc 32 [0]) (i : Fin m) (j : Fin n) :
    iota .tc (Sheet m n) 32 [0] h (ix2 i j) = BitVec.ofNat 32 i.val := iota_single_apply .tc (Sheet m n) 32 0 h (ix2 i j)

/-- The number of the column. -/
theorem column_number (h : (Sheet m n).Iotas .tc 32 [1]) (i : Fin m) (j : Fin n) :
    iota .tc (Sheet m n) 32 [1] h (ix2 i j) = BitVec.ofNat 32 j.val := iota_single_apply .tc (Sheet m n) 32 1 h (ix2 i j)

/-! ## Reductions along the rows -/

/-- The coordinate put back into a row. -/
theorem lift_row (h : (Sheet m n).Reduces [1] (Line m)) (i : Fin m) (k : Fin n) : h.lift (ix1 i) k = ix2 i k :=
  funext fun a => Fin.ext (by match a with | ⟨0, _⟩ => rfl | ⟨1, _⟩ => rfl)

/-- The sum of a row. -/
theorem row_sum (x : FVec Ideal (Sheet m n) .f32) (acc : BitVec 32) (h : (Sheet m n).Reduces [1] (Line m))
    (hφ : FKind.Formats .f32) (hacc : acc = FKind.add.neutral .f32 hφ) (i : Fin m) :
    multiReduction .add [1] (Line m) x acc h hφ hacc (ix1 i) = ∑ k : Fin n, x (ix2 i k) := by
  refine (Ideal.multiReduction_add_single x acc h hφ hacc (ix1 i)).trans ?_
  exact Finset.sum_congr rfl fun k _ => congrArg x (lift_row h i k)

/-- The largest number of a row, and of what the reduction starts from. -/
theorem row_max (x : FVec Ideal (Sheet m n) .f32) (acc : BitVec 32) (h : (Sheet m n).Reduces [1] (Line m))
    (hφ : FKind.Formats .f32) (hacc : acc = FKind.maximumf.neutral .f32 hφ) (i : Fin m) :
    multiReduction .maximumf [1] (Line m) x acc h hφ hacc (ix1 i)
      = (Finset.univ : Finset (Fin n)).fold max (Ideal.ofBits .f32 acc) (fun k => x (ix2 i k)) := by
  refine (Ideal.multiReduction_maximumf_single x acc h hφ hacc (ix1 i)).trans ?_
  exact Finset.fold_congr fun k _ => congrArg x (lift_row h i k)

/-- The smallest number of a row, and of what the reduction starts from. -/
theorem row_min (x : FVec Ideal (Sheet m n) .f32) (acc : BitVec 32) (h : (Sheet m n).Reduces [1] (Line m))
    (hφ : FKind.Formats .f32) (hacc : acc = FKind.minimumf.neutral .f32 hφ) (i : Fin m) :
    multiReduction .minimumf [1] (Line m) x acc h hφ hacc (ix1 i)
      = (Finset.univ : Finset (Fin n)).fold min (Ideal.ofBits .f32 acc) (fun k => x (ix2 i k)) := by
  haveI : Std.Commutative (FloatOps.minimumf (F := Ideal) (φ := .f32)) := ⟨fun a b => min_comm (a : EReal) b⟩
  haveI : Std.Associative (FloatOps.minimumf (F := Ideal) (φ := .f32)) := ⟨fun a b c => min_assoc (a : EReal) b c⟩
  refine (multiReduction_minimumf_eq_fold x acc h hφ hacc (ix1 i)).trans ?_
  refine (h.fold_filter_drop_single _ _ x (ix1 i)).trans ?_
  exact Finset.fold_congr fun k _ => congrArg x (lift_row h i k)

/-! ## Truth values counted -/

/-- A truth value turned into a number. -/
theorem flag_number (p : Prop) [Decidable p] :
    FloatOps.sitofp (F := Ideal) .f32 ((BitVec.ofBool (decide p)).setWidth 32) = (((if p then 1 else 0 : ℝ)) : EReal) := by
  show ((((BitVec.ofBool (decide p)).setWidth 32).toInt : ℝ) : EReal) = _
  by_cases h : p
  · rw [if_pos h, decide_eq_true h, show ((BitVec.ofBool true).setWidth 32).toInt = 1 from by decide, Int.cast_one]
  · rw [if_neg h, decide_eq_false h, show ((BitVec.ofBool false).setWidth 32).toInt = 0 from by decide, Int.cast_zero]

/-- A small number written as an integer and read as a number. -/
theorem small_number (k : ℕ) (hk : k < 2147483648) :
    FloatOps.sitofp (F := Ideal) .f32 (BitVec.ofNat 32 k) = ((k : ℝ) : EReal) := by
  show (((BitVec.ofNat 32 k).toInt : ℝ) : EReal) = _
  have : (BitVec.ofNat 32 k).toInt = (k : ℤ) := by
    rw [BitVec.toInt_eq_toNat_of_lt (by rw [BitVec.toNat_ofNat]; omega), BitVec.toNat_ofNat]; omega
  rw [this, Int.cast_natCast]

/-- Small integers compare as their numbers do. -/
theorem small_slt (a b : ℕ) (ha : a < 2147483648) (hb : b < 2147483648) :
    IntOp.cmpi .slt (BitVec.ofNat 32 a) (BitVec.ofNat 32 b) = BitVec.ofBool (decide (a < b)) := by
  have key : ∀ k : ℕ, k < 2147483648 → (BitVec.ofNat 32 k).toInt = (k : ℤ) := fun k hk => by
    rw [BitVec.toInt_eq_toNat_of_lt (by rw [BitVec.toNat_ofNat]; omega), BitVec.toNat_ofNat]; omega
  show BitVec.ofBool ((BitVec.ofNat 32 a).slt (BitVec.ofNat 32 b)) = _
  rw [BitVec.slt, key a ha, key b hb]
  simp only [Nat.cast_lt]

end Cert.Proof.Shapes

end
-- ==== Proof.Weights.lean ====
/- The weight the kernel gives a channel for an output row: minus the low weight in the low group, the high weight
   outside it, the groups told apart by the channel's rank (rows 0 and 1) or its number (rows 2 and 3). -/
module

public import proofs.«01_k».proof.Proof.Shapes
public import proofs.«01_k».proof.Proof.Gen.KernelIdeal.Frame

@[expose] public section

noncomputable section

namespace Cert.Proof.Weights

open Cert.KernelIdeal Cert.KernelIdeal.Gen Idealize.ShloMosaic Idealize.ShloMosaic.ValueIdx
open Cert.Proof Cert.Proof.Spec Cert.Proof.Shapes

variable (v : S1x96x50176.Idx → EReal)

/-- The channels' pixels of one batch's block. -/
def block (c : Fin 96) (p : Fin 50176) : EReal := v (ix3 0 c p)

/-- The block without its leading axis. -/
theorem pay2_apply (c : Fin 96) (p : Fin 50176) : k0_pay2 (F := Ideal) v (ix2 c p) = block v c p := by
  unfold k0_pay2
  exact opened_apply v _ c p

/-! ## The channels ranked -/

/-- The scores as a column. -/
def scores : FVec Ideal S96x1 .f32 :=
  shapeCast S96x1 (multiReduction .add [1] S96 (k0_pay2 (F := Ideal) v) 0x00000000#32 reduces_S96x50176_S96 (.inl rfl) rfl)
    shapeCasts_S96_S96x1

theorem scores_apply (c : Fin 96) : scores v (ix2 c 0) = score (block v) c := by
  unfold scores
  refine (column_apply _ _ c).trans ((row_sum _ _ _ _ _ c).trans ?_)
  unfold score
  exact Finset.sum_congr rfl fun p _ => pay2_apply v c p

/-- The table of comparisons of every channel (row) with every channel (column). -/
def table : IVec S96x96 1 :=
  have across : FVec Ideal S96x96 .f32 := broadcastTo S96x96 (shapeCast S1x96 (shapeCast S1x96 (scores v) shapeCasts_S96x1_S1x96)
    shapeCasts_S1x96_S1x96) broadcasts_S1x96_S96x96
  have down : FVec Ideal S96x96 .f32 := broadcastTo S96x96 (shapeCast S96x1 (scores v) shapeCasts_S96x1_S96x1) broadcasts_S96x1_S96x96
  ori (cmpf .olt across down) (andi (cmpf .oeq across down)
    (cmpi .slt (iota .tc S96x96 32 [1] iota_S96x96_d1_w32) (iota .tc S96x96 32 [0] iota_S96x96_d0_w32)))

theorem ori_at {s : Shape} (x y : IVec s 1) (i : s.Idx) : ori x y i = x i ||| y i := rfl
theorem andi_at {s : Shape} (x y : IVec s 1) (i : s.Idx) : andi x y i = x i &&& y i := rfl
theorem cmpi_at {s : Shape} (q : CmpIPredicate) (x y : IVec s 32) (i : s.Idx) : cmpi q x y i = IntOp.cmpi q (x i) (y i) := rfl

theorem less_at (a b : EReal) : FloatOps.cmpf (F := Ideal) (φ := .f32) .olt a b = BitVec.ofBool (decide (a < b)) := rfl
theorem equal_at (a b : EReal) : FloatOps.cmpf (F := Ideal) (φ := .f32) .oeq a b = BitVec.ofBool (decide (a = b)) := rfl

open Classical in
/-- The two comparisons of scores and the comparison of numbers, joined as the kernel joins them. -/
theorem joined {n : ℕ} (s : Fin n → EReal) (d c : Fin n) :
    BitVec.ofBool (decide (s d < s c)) ||| (BitVec.ofBool (decide (s d = s c)) &&& BitVec.ofBool (decide (d.val < c.val)))
      = BitVec.ofBool (decide (Rank.Before s d c)) := by
  unfold Rank.Before
  by_cases hp : s d < s c <;> by_cases hq : s d = s c <;> by_cases hr : d < c <;> simp [hp, hq, hr]

open Classical in
theorem table_apply (c d : Fin 96) :
    table v (ix2 c d) = BitVec.ofBool (decide (Rank.Before (score (block v)) d c)) := by
  unfold table
  dsimp only
  rw [ori_at, andi_at, cmpi_at, cmpf_apply, cmpf_apply, spread_column (by decide), spread_row (by decide), shapeCast_self,
    shapeCast_self, flat_apply, scores_apply, scores_apply, row_number, column_number,
    small_slt _ _ (lt_trans d.isLt (by decide)) (lt_trans c.isLt (by decide)), less_at, equal_at]
  exact joined (score (block v)) d c

open Classical in
/-- The counted comparisons are the rank. -/
theorem counted_apply (c : Fin 96) :
    multiReduction .add [1] S96 (sitofp (F := Ideal) .f32 (extui 32 (table v) natLt_1_32)) 0x00000000#32 reduces_S96x96_S96
        (.inl rfl) rfl (ix1 c)
      = ((Rank.rank (score (block v)) c : ℝ) : EReal) := by
  refine (row_sum _ _ _ _ _ c).trans ?_
  rw [Finset.sum_congr rfl (g := fun d => (((if Rank.Before (score (block v)) d c then 1 else 0 : ℝ)) : EReal))
    (fun d _ => by rw [sitofp_apply, extui_apply, table_apply]; exact flag_number _), Bands.coe_sum, Finset.sum_boole]
  rfl

/-- What a channel is placed by. -/
theorem pay3_apply (c : Fin 96) (r : Fin 4) :
    k0_pay3 (F := Ideal) v (ix2 c (r.castLE (by decide))) = ((place (block v) r c : ℝ) : EReal) := by
  have hr := r.isLt
  have : k0_pay3 (F := Ideal) v = select (cmpi .slt (iota .tc S96x8 32 [1] iota_S96x8_d1_w32) (broadcast S96x8 2#32))
      (broadcastTo S96x8 (shapeCast S96x1 (shapeCast S96x1 (multiReduction .add [1] S96
        (sitofp (F := Ideal) .f32 (extui 32 (table v) natLt_1_32)) 0x00000000#32 reduces_S96x96_S96 (.inl rfl) rfl)
        shapeCasts_S96_S96x1) shapeCasts_S96x1_S96x1) broadcasts_S96x1_S96x8)
      (sitofp .f32 (iota .tc S96x8 32 [0] iota_S96x8_d0_w32)) := rfl
  rw [this, select_apply, spread_column (by decide), shapeCast_self, column_apply, counted_apply, sitofp_apply]
  rw [cmpi_at, broadcast_apply, row_number, column_number, Fin.val_castLE, small_slt _ _ (lt_trans r.isLt (by decide)) (by decide),
    small_number _ (lt_trans c.isLt (by decide))]
  unfold place
  by_cases h : r.val < 2
  · rw [if_pos h, decide_eq_true (show _ < 2 from h)]; rfl
  · rw [if_neg h, decide_eq_false (show ¬ _ < 2 from h)]; rfl

/-! ## The even rows -/

/-- The kernel's test that a word is even. -/
def evenTest (w : BitVec 32) : BitVec 1 :=
  let two : BitVec 32 := Scalar.select (Scalar.cmpi .eq 2#32 0#32) 1#32 2#32
  let rest : BitVec 32 := IntOp.remsi .vector w two
  IntOp.cmpi .eq (Scalar.select (IntOp.andi (IntOp.xori (IntOp.cmpi .slt rest 0#32) (Scalar.cmpi .slt two 0#32)) (IntOp.cmpi .ne rest 0#32))
    (IntOp.addi rest two) rest) 0#32

theorem evenTest_row : ∀ r : Fin 4, evenTest (BitVec.ofNat 32 r.val) = BitVec.ofBool (decide (r.val % 2 = 0)) := by decide

theorem pay4_apply (c : Fin 96) (r : Fin 4) :
    k0_pay4 (ix2 c (r.castLE (by decide))) = BitVec.ofBool (decide (r.val % 2 = 0)) := by
  have : k0_pay4 (ix2 c (r.castLE (by decide)))
      = evenTest (iota .tc S96x8 32 [1] iota_S96x8_d1_w32 (ix2 c (r.castLE (by decide)))) := rfl
  rw [this, column_number]
  exact evenTest_row r

/-! ## The weights -/

/-- The table of weights, channels by output rows. -/
def table8 : FVec Ideal S96x8 .f32 :=
  have rows : IVec S96x8 32 := iota .tc S96x8 32 [1] iota_S96x8_d1_w32
  select (cmpi .slt rows (broadcast S96x8 4#32))
    (subf (select k0_pay4 (broadcast S96x8 (Scalar.ofBits .f32 0x3C800000#32)) (broadcast S96x8 (Scalar.ofBits .f32 0x3D000000#32)))
      (mulf (broadcast S96x8 (Scalar.ofBits .f32 0x3D400000#32)) (sitofp .f32 (extui 32 (cmpf .olt (k0_pay3 (F := Ideal) v)
        (select k0_pay4 (broadcast S96x8 (Scalar.ofBits .f32 0x42000000#32)) (broadcast S96x8 (Scalar.ofBits .f32 0x42800000#32)))) natLt_1_32))))
    (broadcast S96x8 (Scalar.ofBits .f32 0x00000000#32))

/-- The weight of a channel for an output row. -/
theorem table8_apply (c : Fin 96) (r : Fin 4) :
    table8 v (ix2 c (r.castLE (by decide)))
      = ((if place (block v) r c < cut r then -lowWeight r else highWeight r : ℝ) : EReal) := by
  have h4 : cmpi .slt (iota .tc S96x8 32 [1] iota_S96x8_d1_w32) (broadcast S96x8 4#32) (ix2 c (r.castLE (by decide))) = 1#1 := by
    rw [cmpi_at, broadcast_apply, column_number, Fin.val_castLE, small_slt _ _ (lt_trans r.isLt (by decide)) (by decide), decide_eq_true (show _ < 4 from r.isLt)]
    rfl
  have hlt : ∀ a b : ℕ, FloatOps.cmpf (F := Ideal) (φ := .f32) .olt (((a : ℝ)) : EReal) (((b : ℝ)) : EReal)
      = BitVec.ofBool (decide (a < b)) := fun a b => by
    rw [Ideal.cmpf_def]
    show BitVec.ofBool (decide ((((a : ℝ)) : EReal) < (((b : ℝ)) : EReal))) = _
    simp only [EReal.coe_lt_coe_iff, Nat.cast_lt]
  unfold table8
  dsimp only
  rw [select_apply, h4, select_one, subf_apply, select_apply, mulf_apply, sitofp_apply, extui_apply, cmpf_apply, select_apply,
    pay4_apply, pay3_apply]
  simp only [broadcast_apply]
  have b32 : (Scalar.ofBits (F := Ideal) .f32 0x42000000#32 : EReal) = (((32 : ℕ) : ℝ) : EReal) := Consts.bits_32.trans (by norm_num)
  have b64 : (Scalar.ofBits (F := Ideal) .f32 0x42800000#32 : EReal) = (((64 : ℕ) : ℝ) : EReal) := Consts.bits_64.trans (by norm_num)
  have i32 : (Scalar.ofBits (F := Ideal) .f32 0x3D000000#32 : EReal) = ((1 / 32 : ℝ) : EReal) := Consts.bits_inv32
  have i64 : (Scalar.ofBits (F := Ideal) .f32 0x3C800000#32 : EReal) = ((1 / 64 : ℝ) : EReal) := Consts.bits_inv64
  have t64 : (Scalar.ofBits (F := Ideal) .f32 0x3D400000#32 : EReal) = ((3 / 64 : ℝ) : EReal) := Consts.bits_3_64
  rw [b32, b64, i32, i64, t64]
  unfold cut lowWeight highWeight
  by_cases h : r.val % 2 = 0
  · rw [decide_eq_true h, if_pos h, if_pos h, if_pos h, show BitVec.ofBool true = 1#1 from rfl, select_one, select_one, hlt, flag_number,
      ← EReal.coe_mul, ← EReal.coe_sub]
    refine congrArg _ ?_
    split_ifs <;> norm_num
  · rw [decide_eq_false h, if_neg h, if_neg h, if_neg h, show BitVec.ofBool false = 0#1 from rfl, select_zero, select_zero, hlt, flag_number,
      ← EReal.coe_mul, ← EReal.coe_sub]
    refine congrArg _ ?_
    split_ifs <;> norm_num

end Cert.Proof.Weights

end
-- ==== Proof.Block.lean ====
/- What one step of the kernel computes from one batch's block: the four bands of the specification. -/
module

public import proofs.«01_k».proof.Proof.Weights

@[expose] public section

noncomputable section

namespace Cert.Proof.Block

open Cert.KernelIdeal Cert.KernelIdeal.Gen Idealize.ShloMosaic Idealize.ShloMosaic.ValueIdx
open Cert.Proof Cert.Proof.Spec Cert.Proof.Shapes Cert.Proof.Weights

/-! ## The product of the weights and the channels -/

/-- A product along the first axis of both operands, read at an index. -/
theorem product_apply {k m n : ℕ} (w : DotDims.WF (Sheet k m) (Sheet k n) (Sheet m n) [0] [0] [1] [1] [] [])
    (x : FVec Ideal (Sheet k m) .f32) (y : FVec Ideal (Sheet k n) .f32) (i : Fin m) (j : Fin n) :
    matmul (⟨[0], [0], [1], [1], [], [], w⟩ : DotDims (Sheet k m) (Sheet k n) (Sheet m n)) none x y
        (constant (Sheet m n) .f32 0x00000000#32) (ix2 i j)
      = ∑ c : Fin k, x (ix2 c i) * y (ix2 c j) := by
  simp only [matmul]
  rw [Ideal.matmul_constant_zero_apply]
  refine (Fintype.sum_equiv (contrEquiv1 _ k rfl rfl).symm _ _ fun c => ?_).symm
  have hc := contrEquiv1_symm_val (⟨[0], [0], [1], [1], [], [], w⟩ : DotDims (Sheet k m) (Sheet k n) (Sheet m n)) k rfl rfl c
  refine congrArg₂ (· * ·) (congrArg x (funext fun a => Fin.ext ?_)) (congrArg y (funext fun a => Fin.ext ?_))
  · match a with
    | ⟨0, _⟩ => exact (show _ = c.val by simp [DotDims.lhsIdx]; exact hc).symm
    | ⟨1, _⟩ => simp [DotDims.lhsIdx]; rfl
  · match a with
    | ⟨0, _⟩ => exact (show _ = c.val by simp [DotDims.rhsIdx]; exact hc).symm
    | ⟨1, _⟩ => simp [DotDims.rhsIdx]; rfl

variable (v : S1x96x50176.Idx → EReal)

/-- The kernel's bands before normalisation, eight rows of which the first four are kept. -/
def mixed : FVec Ideal S8x50176 .f32 :=
  k0_pay5 (F := Ideal) (k0_pay2 (F := Ideal) v) (iota .tc S96x8 32 [1] iota_S96x8_d1_w32) (k0_pay3 (F := Ideal) v) k0_pay4

theorem mixed_eq : mixed v = matmul dot_S96x8_S96x50176_S8x50176_0_0_1_1_n_n none (table8 v) (k0_pay2 (F := Ideal) v)
    (constant S8x50176 .f32 0x00000000#32) := rfl

/-- A kept row is the weighted sum of the channels. -/
theorem mixed_apply (r : Fin 4) (p : Fin 50176) :
    mixed v (ix2 (r.castLE (by decide)) p)
      = Bands.weighed (fun c => place (block v) r c < cut r) (lowWeight r) (highWeight r) (block v) p := by
  rw [mixed_eq]
  refine (product_apply _ (table8 v) (k0_pay2 (F := Ideal) v) _ p).trans ?_
  unfold Bands.weighed
  refine Finset.sum_congr rfl fun c _ => ?_
  rw [table8_apply, pay2_apply]

/-! ## The normalisation -/

theorem least_apply (i : Fin 8) :
    k0_pay6 (F := Ideal) (k0_pay2 (F := Ideal) v) (iota .tc S96x8 32 [1] iota_S96x8_d1_w32) (k0_pay3 (F := Ideal) v) k0_pay4 (ix2 i 0)
      = (Finset.univ : Finset (Fin 50176)).fold min ⊤ (fun q => mixed v (ix2 i q)) := by
  unfold k0_pay6
  dsimp only
  refine (column_apply _ _ i).trans ((row_min _ _ _ _ _ i).trans ?_)
  rw [Consts.bits_top]
  rfl

theorem less_congr {a b c : EReal} (h : a = b) : a - c = b - c := by rw [h]

theorem range_apply (i : Fin 8) :
    k0_pay8 (F := Ideal) (k0_pay2 (F := Ideal) v) (iota .tc S96x8 32 [1] iota_S96x8_d1_w32) (k0_pay3 (F := Ideal) v) k0_pay4 (ix2 i 0)
      = (Finset.univ : Finset (Fin 50176)).fold max ⊥ (fun q => mixed v (ix2 i q))
        - (Finset.univ : Finset (Fin 50176)).fold min ⊤ (fun q => mixed v (ix2 i q)) := by
  unfold k0_pay8
  dsimp only
  rw [subf_apply, least_apply]
  refine less_congr ?_
  refine (column_apply _ _ i).trans ((row_max _ _ _ _ _ i).trans ?_)
  rw [Consts.bits_bot]
  rfl

theorem above_apply (i : Fin 8) (p : Fin 50176) :
    k0_pay7 (F := Ideal) (k0_pay2 (F := Ideal) v) (iota .tc S96x8 32 [1] iota_S96x8_d1_w32) (k0_pay3 (F := Ideal) v) k0_pay4 (ix2 i p)
      = mixed v (ix2 i p) - (Finset.univ : Finset (Fin 50176)).fold min ⊤ (fun q => mixed v (ix2 i q)) := by
  unfold k0_pay7
  dsimp only
  rw [subf_apply, spread_column (by decide), least_apply]
  rfl

theorem origin : (![0, 0, 0] : Fin 3 → ℕ) = fun _ => 0 :=
  funext fun a => by match a with | ⟨0, _⟩ => rfl | ⟨1, _⟩ => rfl | ⟨2, _⟩ => rfl

theorem eps_word : (Scalar.ofBits (F := Ideal) .f32 0x322BCC77#32 : EReal) = ((Consts.eps : ℝ) : EReal) := Consts.bits_eps

/-- What one step writes: the bands of the batch's image. -/
theorem step_apply (r : Fin 4) (p : Fin 50176) : out0_1 (F := Ideal) v (ix3 0 r p) = band (block v) r p := by
  have hld : View.ld (Val := Elt Ideal) (e' := .f32) v r0_0 = v :=
    View.ld_unit_zero (Val := Elt Ideal) (S := S1x96x50176) (e := .f32) origin inb_S1x96x50176_S1x96x50176_0_0_0 v
  unfold_out out0_1
  rw [View.canon_unit_zero origin, hld]
  unfold k0_pay1
  dsimp only
  refine (closed_apply _ _ r p).trans ((first_rows_apply _ _ (by decide) r p).trans ?_)
  rw [divf_apply, above_apply, spread_column (by decide), addf_apply, range_apply, broadcast_apply, eps_word]
  unfold band
  rw [← Bands.norm_weighed_eq_norm_gap _ _ _ (lowWeight_pos r) (highWeight_pos r)]
  unfold Bands.norm
  rw [show (fun q => mixed v (ix2 (r.castLE (by decide)) q))
    = Bands.weighed (fun c => place (block v) r c < cut r) (lowWeight r) (highWeight r) (block v) from
      funext fun q => mixed_apply v r q, mixed_apply]

end Cert.Proof.Block

end
-- ==== Proof.KernelValue.lean ====
/- What the kernel's program leaves in its result array: the specification's result. Each grid point writes the bands
   of one batch; the blocks cover the array the kernel writes; the host lines around it only relabel indices. -/
module

public import proofs.«01_k».proof.Proof.Block
public import Idealize.ShloMosaic.Lib.Pipeline.ValueKit.Geometry
public import Idealize.ShloMosaic.Lib.Claim

@[expose] public section

noncomputable section

namespace Cert.Proof.KernelValue

open Cert.KernelIdeal Cert.KernelIdeal.Gen Idealize.ShloMosaic Idealize.ShloMosaic.ValueIdx Idealize.ShloMosaic.TcCoe
open Idealize.SL.Sem
open Cert.Proof Cert.Proof.Spec Cert.Proof.Weights Cert.Proof.Block

variable (m : (ℓ : Loc nD τ sig) → Buf (Elt Ideal) ℓ) (ρ : Dev nD → PrngReg)

/-- The argument array as launched. -/
def arg (c : Dev nD) : S8x96x224x224.Idx → EReal := m ((c : Thread nD τ).loc main_arg0)

/-- The array the region reads: the argument with its two pixel axes run together. -/
theorem entry (c : Dev nD) : V m c main_v0 = shapeCast S8x96x50176 (arg m c) shapeCasts_S8x96x224x224_S8x96x50176 := by
  entry_read
  rfl

theorem entry_apply (c : Dev nD) (b : Fin 8) (ch : Fin 96) (p : Fin 50176) :
    V m c main_v0 (ix3 b ch p) = image (arg m c) b ch p := by
  rw [entry]
  refine shapeCast_apply _ _ _ (ix4 b ch (row p) (col p)) ?_
  rw [Shape.rowMajor_val_three, Shape.rowMajor_val_four]
  show ((b.val * 96 + ch.val) * 224 + p.val / 224) * 224 + p.val % 224 = (b.val * 96 + ch.val) * 50176 + p.val
  omega

/-- Every window's block at a grid point starts at the point's batch. -/
theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)

/-- What a grid point reads: the image of its batch. -/
theorem iblk_apply (c : Dev nD) (t : Fin cfg0.N) : block (iblk m c 0 t) = image (arg m c) (t.cast N_0) := by
  funext ch p
  unfold block
  refine Eq.trans ?_ (entry_apply m c (t.cast N_0) ch p)
  show V m c main_v0 (((cfg0.win 0).blk t).view.emb (ix3 0 ch p)) = _
  refine congrArg _ (funext fun a => Fin.ext ?_)
  have e := index0 t
  match a with
  | ⟨0, _⟩ => show win0_0.index t 0 * 1 + 1 * 0 = t.val; rw [e]; show t.val * 1 + 1 * 0 = t.val; omega
  | ⟨1, _⟩ => show win0_0.index t 1 * 96 + 1 * ch.val = ch.val; rw [e]; show 0 * 96 + 1 * ch.val = ch.val; omega
  | ⟨2, _⟩ => show win0_0.index t 2 * 50176 + 1 * p.val = p.val; rw [e]; show 0 * 50176 + 1 * p.val = p.val; omega

/-- What the array the kernel writes holds. -/
def written (x : S8x96x224x224.Idx → EReal) (i : S8x4x50176.Idx) : EReal := band (image x (i 0)) (i 1) (i 2)

/-- What a grid point leaves at an index of its block is what the array is to hold there. -/
theorem point_written (c : Dev nD) (t : Fin cfg0.N) (y : S1x4x50176.Idx) :
    out0_1 (F := Ideal) (iblk m c 0 t) y = written (arg m c) (((cfg0.win 1).blk t).view.emb y) := by
  have e := index1 t
  have hy : y = ix3 (0 : Fin 1) (y 1) (y 2) := by
    refine (eq_ix3 y).trans ?_
    rw [show y 0 = (0 : Fin 1) from Subsingleton.elim (α := Fin 1) _ _]
    rfl
  have place : ((cfg0.win 1).blk t).view.emb y = ix3 (t.cast N_0) (y 1) (y 2) := funext fun a => Fin.ext (by
    have h0 : (y 0).val = 0 := by have : (y 0).val < 1 := (y 0).isLt; omega
    match a with
    | ⟨0, _⟩ => show win0_1.index t 0 * 1 + 1 * (y 0).val = t.val; rw [e, h0]; show t.val * 1 + 1 * 0 = t.val; omega
    | ⟨1, _⟩ => show win0_1.index t 1 * 4 + 1 * (y 1).val = (y 1).val; rw [e]; show 0 * 4 + 1 * (y 1).val = (y 1).val; omega
    | ⟨2, _⟩ => show win0_1.index t 2 * 50176 + 1 * (y 2).val = (y 2).val; rw [e]; show 0 * 50176 + 1 * (y 2).val = (y 2).val; omega)
  rw [place, hy]
  refine (step_apply (iblk m c 0 t) (y 1) (y 2)).trans ?_
  rw [iblk_apply]
  rfl

theorem written_final (c : Dev nD) : (dats m 0 c).arrAt 1 cfg0.N = written (arg m c) := by
  refine (dats m 0 c).arrAt_eq_of_covers 1 _ (by decide +kernel) fun t hf y => ?_
  blk_simp
  rw [after0_1]
  exact point_written m c t y

/-! ## The result -/

/-- The result array: the written array with its pixel axis taken apart. -/
theorem tail_eq (c : Dev nD) : Pipeline.afterTail₀ cfgs (dats m) 0 (V0 m) [hostOps1] c main_v2
    = shapeCast S8x4x224x224 (written (arg m c)) shapeCasts_S8x4x50176_S8x4x224x224 := by
  unfold Pipeline.afterTail₀
  show StableHlo.after hostOps1 _ (Proc.devRef .tc main_v2) = _
  after_results
  rw [show Pipeline.withArrays spec0 c (V0 m c) (fun w => (dats m 0 c).arrAt w cfg0.N) (Proc.devRef .tc main_v1)
    = (dats m 0 c).arrAt 1 cfg0.N from Pipeline.withArrays_arr spec0 winFacts0.arr_inj c (V0 m c) _ 1, written_final]
  rfl

theorem final (c : Dev nD) : Pipeline.afterTail₀ cfgs (dats m) 0 (V0 m) [hostOps1] c main_v2 = result (arg m c) := by
  rw [tail_eq]
  funext j
  refine (shapeCast_apply _ _ j (ix3 (j 0) (j 1) (pixel (j 2) (j 3))) ?_).trans rfl
  rw [Shape.rowMajor_val_three, Shape.rowMajor_val_four]
  show ((j 0).val * 4 + (j 1).val) * 50176 + ((j 2).val * 224 + (j 3).val)
    = (((j 0).val * 4 + (j 1).val) * 224 + (j 2).val) * 224 + (j 3).val
  omega

/-- The kernel's program, from any memory: the result array ends at the specification's result, the argument unchanged. -/
theorem run : θ_run defs (onTc (τ := τ) (main (F := Ideal))) ⟨m, fun _ => 0, ρ⟩ (fun r => ∀ c : Dev nD,
      r.2.mem ((c.tc : Thread nD τ).loc main_v2) = result (arg m c)
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (final m c),
      ((h c).2 main_arg0 (Pipeline.mem_restRefs_of main_arg0 (by decide) (by decide))).trans (W_main_arg0 m (dats m) c)⟩)
    (run_main m ρ)

end Cert.Proof.KernelValue

end
-- ==== Proof.lean ====
/- The certificate's proof, assembled: the three programs run and leave their argument as it was; the kernel's program and
   the reference's end with equal results, since each ends with the specification's (Proof/Spec.lean `result`): the kernel's
   by Proof/KernelValue.lean, the reference's by Proof/RefValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import proofs.«01_k».proof.Proof.KernelValue
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its argument as it was, and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's program, from any memory: the result array ends at the specification's result, the argument unchanged. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v111)
          = Spec.result (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono (fun _ h c =>
      ⟨(h c).1.trans ((Cert.ReferenceIdeal.Read.val_main_v111_eq (F := Ideal) (StableHlo.launchContents m c)).trans
        (RefValue.value _)), (h c).2⟩)
    (Cert.ReferenceIdeal.Value.run (F := Ideal) m ρ)

/-- The kernel's program and the reference's end with equal results, from any memories that agree on the argument. -/
theorem equal_results : Cert.algebraic_KernelIdeal_ReferenceIdeal := fun m g m' g' _ hargs =>
  ⟨fun c => Spec.result (KernelValue.arg m c), KernelValue.run m g,
    (θ_run Cert.ReferenceIdeal.defs _ _).mono (fun _ h c =>
      ⟨(h c).1.trans (congrArg Spec.result (hargs c)), (h c).2⟩) (run_reference m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof

end
